-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "nlog2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2_over_rows" .f32 0x3A317218#32 (((Real.log 2) * (1 / 1024) : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S1024x100000 .f32 := Host.absf main_arg0
  let main_cst : FVec F S_ .f32 := constant S_ .f32 0x7F800000#32
  let main_v7 : FVec F S1024x100000 .f32 := broadcastInDim S1024x100000 ![] bcast_S_S1024x100000 main_cst
  let main_v8 : IVec S1024x100000 1 := cmpf .olt main_v6 main_v7
  let main_c_2 : IVec S_ 1 := constantI S_ 1 1#1
  let main_v9 : IVec S_ 1 := (fun x v => Host.reduce IntOp.andi x v reducesTo_S1024x100000_S_d0_1 h_S_) main_v8 main_c_2
  let main_v10 : IVec S_ 1 := andi main_v5 main_v9
  main_v10
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S100000x1024 : Shape := ⟨2, ![100000, 1024]⟩
abbrev S32 : Shape := ⟨1, ![32]⟩
abbrev S32x128 : Shape := ⟨2, ![32, 128]⟩
abbrev S_ : Shape := ⟨0, ![]⟩
abbrev S100000x128 : Shape := ⟨2, ![100000, 128]⟩
abbrev S16 : Shape := ⟨1, ![16]⟩
abbrev S1000x1024 : Shape := ⟨2, ![1000, 1024]⟩
abbrev S8x1024 : Shape := ⟨2, ![8, 1024]⟩

abbrev nBuf : Table → Nat
  | .hbm => 6
  | .local .tc .vmem => 13
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000x1024, .f32⟩
  | .hbm, ⟨3, _⟩ => ⟨S1024, .f32⟩
  | .hbm, ⟨4, _⟩ => ⟨S1024, .f32⟩
  | .hbm, ⟨5, _⟩ => ⟨S1024, .f32⟩
  | .local .tc .vmem, ⟨0, _⟩ => ⟨S1000x1024, .f32⟩
  | .local .tc .vmem, ⟨1, _⟩ => ⟨S1000x1024, .f32⟩
  | .local .tc .vmem, ⟨2, _⟩ => ⟨S1000x1024, .f32⟩
  | .local .tc .vmem, ⟨3, _⟩ => ⟨S1000x1024, .f32⟩
  | .local .tc .vmem, ⟨4, _⟩ => ⟨S1000x1024, .f32⟩
  | .local .tc .vmem, ⟨5, _⟩ => ⟨S1000x1024, .f32⟩
  | .local .tc .vmem, ⟨6, _⟩ => ⟨S1000x1024, .f32⟩
  | .local .tc .vmem, ⟨7, _⟩ => ⟨S1000x1024, .f32⟩
  | .local .tc .vmem, ⟨8, _⟩ => ⟨S1024, .f32⟩
  | .local .tc .vmem, ⟨9, _⟩ => ⟨S8x1024, .f32⟩
  | .local .tc .vmem, ⟨10, _⟩ => ⟨S1024, .f32⟩
  | .local .tc .vmem, ⟨11, _⟩ => ⟨S1024, .f32⟩
  | .local .tc .vmem, ⟨12, _⟩ => ⟨S1024, .f32⟩
  | .local .scVector .vmem, ⟨0, _⟩ => ⟨S32, .i32⟩
  | .local .scVector .vmem, ⟨1, _⟩ => ⟨S32x128, .f32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc2_sem0_0 : DmaSem sig := 12
abbrev cc2_sem1_0 : DmaSem sig := 13
abbrev cc2_sem2_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c127_i32 : BitVec 32 := 127#32
  let v3 : BitVec 32 := Scalar.andi v2 c127_i32
  let v4 : BitVec 32 := Scalar.subi v2 v3
  v4
def k0_off2 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c127_i32 : BitVec 32 := 127#32
  let v3 : BitVec 32 := Scalar.andi v2 c127_i32
  let v4 : BitVec 32 := Scalar.subi v2 v3
  let v5 : BitVec 32 := v4
  ![0, v5.toNat]

def k0_chk1 (v10 : IVec S16 32) (v12 : IVec S16 32) : Prop :=
  (∀ a x, ((![v10, v12] : Fin 2 → IVec S16 32) a x).toNat < S32x128.size a)
theorem k0_idx1_inb : ∀ (v10 : IVec S16 32) (v12 : IVec S16 32) (k0_hw1 : k0_chk1 v10 v12), ∀ a x, ((![v10, v12] : Fin 2 → IVec S16 32) a x).toNat < S32x128.size a := fun v10 v12 k0_hw1 => k0_hw1

def k0_chk2 (v17 : IVec S16 32) (v19 : IVec S16 32) : Prop :=
  (∀ a x, ((![v17, v19] : Fin 2 → IVec S16 32) a x).toNat < S32x128.size a)
theorem k0_idx2_inb : ∀ (v17 : IVec S16 32) (v19 : IVec S16 32) (k0_hw2 : k0_chk2 v17 v19), ∀ a x, ((![v17, v19] : Fin 2 → IVec S16 32) a x).toNat < S32x128.size a := fun v17 v19 k0_hw2 => k0_hw2
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v3899 : BitVec 1 := Scalar.cmpi .eq arg0 c24_i32
  let v3900 : BitVec 32 := Scalar.extui v3899
  let c0_i32_1139 : BitVec 32 := 0#32
  let v3901 : BitVec 1 := Scalar.cmpi .ne v3900 c0_i32_1139
  v3901

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c50_i32 : BitVec 32 := 50#32
  let v0 : BitVec 32 := Scalar.addi arg0 c50_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c75_i32 : BitVec 32 := 75#32
  let v0 : BitVec 32 := Scalar.addi arg0 c75_i32
  let c0_i32 : BitVec 32 := 0#32
  let c0_i32_0 : BitVec 32 := 0#32
  ![v0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := .none

abbrev stage2_0 : Fin 1 → Memref sig .tc .vmem S1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "ln2_over_rows" => some (((Real.log 2) * (1 / 1024) : ℝ) : EReal)
  | "log2e" => some (((Real.log 2)⁻¹ : ℝ) : EReal)
  | "nlog2e" => some ((-((Real.log 2)⁻¹) : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 38
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x100000, .f32⟩
  | .hbm, ⟨3, _⟩ => ⟨S1024x100000, .f32⟩
  | .hbm, ⟨4, _⟩ => ⟨S_, .f32⟩
  | .hbm, ⟨5, _⟩ => ⟨S1024x100000, .f32⟩
  | .hbm, ⟨6, _⟩ => ⟨S1024x100000, .f32⟩
  | .hbm, ⟨7, _⟩ => ⟨S_, .f32⟩
  | .hbm, ⟨8, _⟩ => ⟨S1024x100000, .f32⟩
  | .hbm, ⟨9, _⟩ => ⟨S1024x100000, .f32⟩
  | .hbm, ⟨10, _⟩ => ⟨S1024x100000, .f32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x1, .i32⟩
  | .hbm, ⟨28, _⟩ => ⟨S1024x2, .i32⟩
  | .hbm, ⟨29, _⟩ => ⟨S_, .f32⟩
  | .hbm, ⟨30, _⟩ => ⟨S1024, .f32⟩
  | .hbm, ⟨31, _⟩ => ⟨S1024x100000, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Setup.lean ====
/- The program as the launch sees it: the SparseCore call's configuration, the ghost state, the
   buffers of the main program, what the call's handshakes carry, and the value the call leaves. -/
module

public import proofs.«01_k».proof.Proof.Gen.KernelIdeal.Skeleton
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic

@[expose] public section

set_option maxRecDepth 16384

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program -/

/-- The labels of the program with its two pipelines; -/
abbrev ΛP : Labels := Pipeline.Sig Λ₀ (Fin 2) fun p => (pcfgs (F := F) p).Adm
/-- its SparseCore call; -/
abbrev K : SparseCore.Cfg τ sig (ΛP (F := F)) 1 := sc (F := F)
/-- its bodies; -/
abbrev D : Defs nD τ sig (Elt F) (ΛP (F := F)) := Pipeline.defs pcfgs defs₀
/-- no body needs a variant, -/
abbrev 𝒱₀ : Variants := Variants.none
/-- nor does the whole, -/
abbrev 𝒱 : Variants := 𝒱₀.lift
/-- whose variant is the empty one. -/
abbrev v₀ : 𝒱.V := Sum.inl none

/-- The side facts of the launch: the four handshake semaphores are distinct and not scoped, and
    no scalar-subcore buffer is shared by tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

/-- The handshakes' rounds; -/
abbrev UH : Type := URounds (GSem nD τ sig) ℕ
/-- the pipelines' rounds; -/
abbrev UP : Type := URounds (GSem nD τ sig) Unit
/-- both, and the transfers' counters. -/
abbrev UU : Type := UH × (UP × Counters)

/-- The assertions of this proof. -/
local notation "𝕄" => MT nD τ sig (HIx 1) (Elt F) ℕ UU ℕ

/-- The handshakes' part of the ghost state; -/
abbrev EH : Emb UH (MT nD τ sig (HIx 1) (Elt F) ℕ UU ℕ) := embL
/-- the pipelines' part. -/
abbrev EP : Emb UP (MT nD τ sig (HIx 1) (Elt F) ℕ UU ℕ) :=
  (Emb.inl : Emb UP (UP × Counters)).trans (embR (A := UH))

/-! ## The buffers -/

variable (m : (ℓ : Loc nD τ sig) → Buf (Elt F) ℓ)

/-- The logits, the targets, the transposed logits, the picked logits, the sums, the result. -/
abbrev pLoc (d : Dev nD) : Loc nD τ sig := (SparseCore.T d).loc main_arg0
abbrev tLoc (d : Dev nD) : Loc nD τ sig := (SparseCore.T d).loc main_arg1
abbrev xLoc (d : Dev nD) : Loc nD τ sig := (SparseCore.T d).loc main_v0
abbrev vLoc (d : Dev nD) : Loc nD τ sig := (SparseCore.T d).loc main_v1
abbrev sLoc (d : Dev nD) : Loc nD τ sig := (SparseCore.T d).loc main_v2
abbrev rLoc (d : Dev nD) : Loc nD τ sig := (SparseCore.T d).loc main_v3

/-- The place of row `r`, column `c` in the transposed logits. -/
def ix2 (r : Fin 100000) (c : Fin 1024) : S100000x1024.Idx :=
  fun | 0 => r | 1 => c

/-- The logits transposed: what the main program's first operation leaves. -/
def predT (d : Dev nD) : Buf (Elt F) (xLoc d) :=
  transpose S100000x1024 [1, 0] (m (pLoc d)) transposes_S1024x100000_S100000x1024_1_0

/-- What the SparseCore call leaves: of each column of the transposed logits the entry at the
    column's target row. -/
def picked (d : Dev nD) : Buf (Elt F) (vLoc d) :=
  fun j : S1024.Idx =>
    predT m d (ix2 ⟨BitVec.toNat (m (tLoc d) j : BitVec 32) % 100000, Nat.mod_lt _ (by omega)⟩ (j 0))

/-- What the proof asks of the launch memory: each target names a row of the transposed logits. -/
def PreOK : Prop := ∀ (d : Dev nD) (j : S1024.Idx), BitVec.toNat (m (tLoc d) j : BitVec 32) < 100000

/-! ## The 32 workers: blocks of 32 columns, shares of the transposed logits -/

/-- 32 divides the rows' number. -/
theorem div32 : 32 ∣ S1024.size 0 := ⟨32, rfl⟩

/-- Block `w` of 32 places of a row of 1024. -/
abbrev blk32 (w : Fin 32) : Rect S1024 := Rect.part (s := S1024) (a₀ := 0) div32 w

/-- Worker `w`'s share of the transposed logits. -/
abbrev shr (w : Fin 32) : PosShare TreeShare := pieceOf fullShare 32 (by omega) w

/-- The number of the worker on SparseCore `c`, subcore `i`. -/
def wk (c i : ℕ) (hc : c < 2) (hi : i < 16) : Fin 32 := ⟨2 * i + c, by omega⟩

/-- The targets whole; -/
abbrev tPts (d : Dev nD) : sProp 𝕄 := tLoc d ↦{fullShare} m (tLoc d)
/-- the transposed logits whole; -/
abbrev xPts (d : Dev nD) : sProp 𝕄 := xLoc d ↦{fullShare} predT m d
/-- the picked logits whole, holding `f`; -/
abbrev vPts (d : Dev nD) (f : Buf (Elt F) (vLoc d)) : sProp 𝕄 := vLoc d ↦{fullShare} f
/-- a worker's targets; -/
abbrev tBlk (d : Dev nD) (w : Fin 32) : sProp 𝕄 := tLoc d ↦[(blk32 w).set]{fullShare} m (tLoc d)
/-- its share of the transposed logits; -/
abbrev xShr (d : Dev nD) (w : Fin 32) : sProp 𝕄 := xLoc d ↦{shr w} predT m d
/-- its block of the picked logits, holding `f`. -/
abbrev vBlk (d : Dev nD) (w : Fin 32) (f : Buf (Elt F) (vLoc d)) : sProp 𝕄 := vLoc d ↦[(blk32 w).set]{fullShare} f

/-- What one worker takes and brings back: its targets, its share of the transposed logits, its
    block of the picked logits at `f`. -/
def work (d : Dev nD) (w : Fin 32) (f : Buf (Elt F) (vLoc d)) : sProp 𝕄 :=
  iprop(tBlk m d w ∗ xShr m d w ∗ vBlk d w f)

/-- A worker's part may be handed over by a semaphore, -/
instance work_storable (d : Dev nD) (w : Fin 32) (f : Buf (Elt F) (vLoc d)) :
    BI.Storable (upEmb : UEmb _ 𝕄) (work m d w f) := by
  unfold work; infer_instance

/-- What the subcores of one SparseCore take and bring back. -/
def coreWork (d : Dev nD) (c : ℕ) (hc : c < 2) (f : Buf (Elt F) (vLoc d)) : sProp 𝕄 :=
  bigSep Finset.univ fun i : Fin 16 => work m d (wk c i.val hc i.isLt) f

/-- and so may a SparseCore's, -/
instance coreWork_storable (d : Dev nD) (c : ℕ) (hc : c < 2) (f : Buf (Elt F) (vLoc d)) :
    BI.Storable (upEmb : UEmb _ 𝕄) (coreWork m d c hc f) := by
  unfold coreWork; infer_instance

/-- What the call's handshakes carry: each SparseCore its subcores' work, each subcore its own;
    back comes the same with the picked logits in place. -/
def P : (K (F := F)).Pay (nD := nD) (Val := Elt F) (Name := ℕ) (U := UU) where
  st := fun q d c => match q with | 0 => coreWork m d c.val c.isLt (m (vLoc d))
  dn := fun q d c => match q with | 0 => coreWork m d c.val c.isLt (picked m d)
  go := fun q d c i => match q with | 0 => work m d (wk c.val i.val c.isLt i.isLt) (m (vLoc d))
  td := fun q d c i => match q with | 0 => work m d (wk c.val i.val c.isLt i.isLt) (picked m d)
  x := fun _ _ => iprop(emp)

/-- and everything that the handshakes carry. -/
instance P_storable : (P (F := F) m).IsStorable where
  st q d c := match q with | 0 => coreWork_storable m d c.val c.isLt (m (vLoc d))
  dn q d c := match q with | 0 => coreWork_storable m d c.val c.isLt (picked m d)
  go q d c i := match q with | 0 => work_storable m d (wk c.val i.val c.isLt i.isLt) (m (vLoc d))
  td q d c i := match q with | 0 => work_storable m d (wk c.val i.val c.isLt i.isLt) (picked m d)

/-- A SparseCore's work is its subcores', before and after. -/
theorem vecSplit : (K (F := F)).VecSplit' (P m) 0 := by
  intro d c
  show coreWork m d c.val c.isLt (m (vLoc d)) ⊢ |={Set.univ}=> iprop(
      (bigSep Finset.univ fun i : Fin 16 => work m d (wk c.val i.val c.isLt i.isLt) (m (vLoc d)))
      ∗ ((bigSep Finset.univ fun i : Fin 16 => work m d (wk c.val i.val c.isLt i.isLt) (picked m d))
          -∗ coreWork m d c.val c.isLt (picked m d)))
  unfold coreWork
  iintro H; imodintro
  isplitl [H]; · iexact H
  iintro H; iexact H

/-! ## The whole buffers are the 32 workers' parts -/

/-- Numbering the pairs of a SparseCore and a subcore. -/
def wkEquiv : (Σ _ : Fin 2, Fin 16) ≃ Fin 32 where
  toFun p := wk p.1.val p.2.val p.1.isLt p.2.isLt
  invFun w := ⟨⟨w.val % 2, Nat.mod_lt _ (by omega)⟩, ⟨w.val / 2, by omega⟩⟩
  left_inv p := by
    obtain ⟨c, i⟩ := p
    have hc := c.isLt
    have h1 : (2 * i.val + c.val) % 2 = c.val := by omega
    have h2 : (2 * i.val + c.val) / 2 = i.val := by omega
    simp only [wk, h1, h2]
  right_inv w := Fin.ext (by simp only [wk]; omega)

/-- The targets, the transposed logits and the picked logits whole are the two SparseCores' work. -/
theorem pts_work (d : Dev nD) (f : Buf (Elt F) (vLoc d)) :
    (iprop(tPts m d ∗ xPts m d ∗ vPts d f) : sProp 𝕄)
      = bigSep Finset.univ fun c : Fin 2 => coreWork m d c.val c.isLt f := by
  have hdis : ∀ i ∈ (Finset.univ : Finset (Fin 32)), ∀ j ∈ (Finset.univ : Finset (Fin 32)), i ≠ j →
      Disjoint (blk32 i).set (blk32 j).set := fun i _ j _ h => Rect.part_disjoint div32 h
  have hcov : (Finset.univ : Finset (Fin 32)).biUnion (fun w => (blk32 w).set) = Finset.univ := Rect.biUnion_part div32
  have ht : (tPts m d : sProp 𝕄) = bigSep Finset.univ fun w : Fin 32 => tBlk m d w := by
    unfold tPts tBlk
    rw [← pointsTo_biUnion Finset.univ (ℓ := tLoc d) (fun w : Fin 32 => (blk32 w).set) hdis, hcov]
  have hv : (vPts d f : sProp 𝕄) = bigSep Finset.univ fun w : Fin 32 => vBlk d w f := by
    unfold vPts vBlk
    rw [← pointsTo_biUnion Finset.univ (ℓ := vLoc d) (fun w : Fin 32 => (blk32 w).set) hdis, hcov]
  have hx : (xPts m d : sProp 𝕄) = bigSep Finset.univ fun w : Fin 32 => xShr m d w :=
    pointsTo_piecesOf Finset.univ _ (by omega) fullShare
  rw [ht, hx, hv, ← bigSep_sep', ← bigSep_sep']
  show (bigSep Finset.univ fun w : Fin 32 => work m d w f) = _
  rw [bigSep_univ_equiv wkEquiv, Pipeline.bigSep_univ_sigma]
  rfl

end Cert.KernelIdeal.Sc

end
-- ==== Proof.Tile.lean ====
/- One task of the SparseCore call, at a symbolic SparseCore and subcore: fetch the 32 targets, gather
   the 32 rows' groups of 128 columns, pick each row's own column, write the 32 picked logits out. -/
module

public import proofs.«01_k».proof.Proof.Setup

@[expose] public section

set_option maxRecDepth 16384

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- The assertions of this proof. -/
local notation "𝕄" => MT nD τ sig (HIx 1) (Elt F) ℕ UU ℕ

variable (m : (ℓ : Loc nD τ sig) → Buf (Elt F) ℓ)

/-! ## The task's memrefs -/

/-- The transposed logits as a task sees them; -/
abbrev xV : Memref sig .scVector .hbm S100000x1024 .f32 := Memref.whole main_v0_scv
/-- the targets; -/
abbrev tV : Memref sig .scVector .hbm S1024 .i32 := Memref.whole main_arg1_scv
/-- the picked logits; -/
abbrev vV : Memref sig .scVector .hbm S1024 .f32 := Memref.whole main_v1_scv
/-- the scratch for the task's targets; -/
abbrev iS : Memref sig .scVector .vmem S32 .i32 := Memref.whole cc0_scratch0
/-- the scratch for the gathered rows; -/
abbrev rS : Memref sig .scVector .vmem S32x128 .f32 := Memref.whole cc0_scratch1
/-- the scratch for the task's picked logits. -/
abbrev oS : Memref sig .scVector .vmem S32 .f32 := Memref.whole cc0_scratch2

/-! ## The task's numbers -/

section Numbers

variable (L : grid0.Coords)

/-- The task's SparseCore; -/
abbrev cV : Fin τ.nSC := (L 0).castLE hcore0
/-- its subcore. -/
abbrev jV : Fin τ.nSub := (L 1).castLE hsub0

/-- The worker's number. -/
abbrev wL : Fin 32 := wk (L 0).val (L 1).val (L 0).isLt (L 1).isLt

/-- The first column of the worker's group of 128 columns. -/
theorem off2_eq : ∀ L : grid0.Coords,
    k0_off2 L = ![0, (64 * (L 1).val + 32 * (L 0).val) / 128 * 128] := by decide +kernel

/-- Place `k` of a row of 16. -/
def lane16 (k : Fin 16) : S16.Idx := fun | 0 => k

/-- Every place of a row of 16 is one of the 16. -/
theorem eq_lane16 (x : S16.Idx) : x = lane16 (x 0) := funext fun a => by
  match a with | 0 => rfl

/-- The first 16 rows' numbers. -/
theorem pay1_val : ∀ k : Fin 16, ((k0_pay1 (lane16 k)) : BitVec 32).toNat = k.val := by decide +kernel

/-- The last 16 rows' numbers. -/
theorem pay3_val : ∀ k : Fin 16, ((k0_pay3 (lane16 k)) : BitVec 32).toNat = 16 + k.val := by decide +kernel

/-- The columns the first 16 rows are picked at, within the group of 128. -/
theorem pay2_val : ∀ (L : grid0.Coords) (k : Fin 16), ((k0_pay2 L k0_pay1 (lane16 k)) : BitVec 32).toNat
    = (64 * (L 1).val + 32 * (L 0).val) % 128 + k.val := by decide +kernel

/-- The columns the last 16 rows are picked at, within the group of 128. -/
theorem pay4_val : ∀ (L : grid0.Coords) (k : Fin 16), ((k0_pay4 L k0_pay3 (lane16 k)) : BitVec 32).toNat
    = (64 * (L 1).val + 32 * (L 0).val) % 128 + (16 + k.val) := by decide +kernel

/-- The first check passes: the rows are below 32 and the columns below 128. -/
theorem chk1 : k0_chk1 k0_pay1 (k0_pay2 L k0_pay1) := by
  intro a x
  rw [eq_lane16 x]
  have h0 := (L 0).isLt
  match a with
  | 0 => exact (pay1_val (x 0)).trans_lt (lt_of_lt_of_le (x 0).isLt (by decide))
  | 1 =>
    refine (pay2_val L (x 0)).trans_lt ?_
    have := (x 0).isLt
    change _ < 128; change (x 0).val < 16 at this
    omega

/-- The second check passes. -/
theorem chk2 : k0_chk2 k0_pay3 (k0_pay4 L k0_pay3) := by
  intro a x
  rw [eq_lane16 x]
  match a with
  | 0 =>
    refine (pay3_val (x 0)).trans_lt ?_
    have := (x 0).isLt
    change _ < 32; change (x 0).val < 16 at this
    omega
  | 1 =>
    refine (pay4_val L (x 0)).trans_lt ?_
    have := (x 0).isLt
    change _ < 128; change (x 0).val < 16 at this
    omega

/-- The worker's block of 32 places, as the body slices the targets. -/
abbrev rct1 : Rect S1024 := Rect.unit (s := S1024) (k0_off1 L) S32.size (k0_off1_inb L)
/-- The same block, as the body slices the picked logits; -/
abbrev rct3 : Rect S1024 := Rect.unit (s := S1024) (k0_off3 L) S32.size (k0_off3_inb L)
/-- the group of 128 columns that holds it, as the body slices the transposed logits. -/
abbrev rct2 : Rect S100000x1024 := Rect.unit (s := S100000x1024) (k0_off2 L) S100000x128.size (k0_off2_inb L)
/-- The task's targets; -/
abbrev tB : Memref sig .scVector .hbm S32 .i32 := tV.slice (rct1 L) (fun _ => rfl)
/-- its picked logits; -/
abbrev vB : Memref sig .scVector .hbm S32 .f32 := vV.slice (rct3 L) (fun _ => rfl)
/-- its group of columns of the transposed logits. -/
abbrev xG : Memref sig .scVector .hbm S100000x128 .f32 := xV.slice (rct2 L) (fun _ => rfl)

/-- The slice of the targets is the worker's block; -/
theorem rct1_eq : rct1 L = blk32 (wL L) := by
  unfold rct1 blk32 Rect.part Rect.block
  congr 1 <;> funext a
  · rw [k0_off1_eq]
    match a with
    | 0 => (have hw : (wL L).val = 2 * (L 1).val + (L 0).val := rfl); simp [Shape.partIx, Shape.partSize]; omega
  · match a with
    | 0 => simp [Shape.partSize]

/-- and so is the slice of the picked logits. -/
theorem rct3_eq : rct3 L = blk32 (wL L) := by
  unfold rct3 blk32 Rect.part Rect.block
  congr 1 <;> funext a
  · rw [k0_off3_eq]
    match a with
    | 0 => (have hw : (wL L).val = 2 * (L 1).val + (L 0).val := rfl); simp [Shape.partIx, Shape.partSize]; omega
  · match a with
    | 0 => simp [Shape.partSize]

/-- The places of the task's targets are the worker's block; -/
theorem set_tB : (tB L).view.set = (blk32 (wL L)).set := by
  show ((View.whole (main_arg1_scv : Ref sig .scVector)).slice (rct1 L)).set = _
  rw [View.set_slice, rct1_eq]; exact Finset.map_refl

/-- so are those of its picked logits. -/
theorem set_vB : (vB L).view.set = (blk32 (wL L)).set := by
  show ((View.whole (main_v1_scv : Ref sig .scVector)).slice (rct3 L)).set = _
  rw [View.set_slice, rct3_eq]; exact Finset.map_refl

end Numbers

/-! ## The task's buffers and semaphores -/

section Tile

variable (d : Dev nD) (L : grid0.Coords)

/-- Holding the task's targets is holding the worker's block of them; -/
theorem pts_tB (f : Buf (Elt F) (tLoc d)) :
    ((tB L).view.loc (V d (cV L) (jV L)) ↦[(tB L).view.set]{fullShare} f : sProp 𝕄) = tLoc d ↦[(blk32 (wL L)).set]{fullShare} f := by
  rw [set_tB]
/-- the same for the picked logits; -/
theorem pts_vB (f : Buf (Elt F) (vLoc d)) :
    ((vB L).view.loc (V d (cV L) (jV L)) ↦[(vB L).view.set]{fullShare} f : sProp 𝕄) = vLoc d ↦[(blk32 (wL L)).set]{fullShare} f := by
  rw [set_vB]
/-- a share of the transposed logits is the same however it is named; -/
theorem pts_xV (q : PosShare TreeShare) (f : Buf (Elt F) (xLoc d)) :
    (xV.view.loc (V d (cV L) (jV L)) ↦{q} f : sProp 𝕄) = xLoc d ↦{q} f := rfl
/-- so is the scratch for the targets, -/
theorem pts_iS (f : Buf (Elt F) ((V d (cV L) (jV L)).loc cc0_scratch0)) :
    (iS.view.loc (V d (cV L) (jV L)) ↦{fullShare} f : sProp 𝕄) = (V d (cV L) (jV L)).loc cc0_scratch0 ↦{fullShare} f := rfl
/-- the scratch for the rows, -/
theorem pts_rS (f : Buf (Elt F) ((V d (cV L) (jV L)).loc cc0_scratch1)) :
    (rS.view.loc (V d (cV L) (jV L)) ↦{fullShare} f : sProp 𝕄) = (V d (cV L) (jV L)).loc cc0_scratch1 ↦{fullShare} f := rfl
/-- the scratch for the picked logits, -/
theorem pts_oS (f : Buf (Elt F) ((V d (cV L) (jV L)).loc cc0_scratch2)) :
    (oS.view.loc (V d (cV L) (jV L)) ↦{fullShare} f : sProp 𝕄) = (V d (cV L) (jV L)).loc cc0_scratch2 ↦{fullShare} f := rfl
/-- and the scratch for the rows as the indexed load reads it. -/
theorem pts_rS_access (f : Buf (Elt F) ((V d (cV L) (jV L)).loc cc0_scratch1)) :
    ((rS.access (.whole S32x128)).loc (V d (cV L) (jV L)) ↦{fullShare} f : sProp 𝕄) = (V d (cV L) (jV L)).loc cc0_scratch1 ↦{fullShare} f := rfl

/-- The semaphore of the copy in; -/
abbrev cA (d : Dev nD) (c : Fin τ.nSC) (i : Fin τ.nSub) : GSem nD τ sig := (V d c i, .dma cc0_scoped0.sem)
/-- of the copy out; -/
abbrev cB (d : Dev nD) (c : Fin τ.nSC) (i : Fin τ.nSub) : GSem nD τ sig := (V d c i, .dma cc0_scoped1.sem)
/-- of the gather. -/
abbrev cG (d : Dev nD) (c : Fin τ.nSC) (i : Fin τ.nSub) : GSem nD τ sig := (V d c i, .dma cc0_scratch3.sem)

/-- The three transfers' semaphores are among the subcore's own. -/
theorem ownSems0_V :
    (ownSems0 (V d (cV L) (jV L)) : sProp 𝕄)
      = iprop(semVal (cA d (cV L) (jV L)) 0 ∗ semVal (cB d (cV L) (jV L)) 0 ∗ semVal (cG d (cV L) (jV L)) 0
          ∗ bigSep ((((ownCells (V d (cV L) (jV L))).erase (cA d (cV L) (jV L))).erase (cB d (cV L) (jV L))).erase (cG d (cV L) (jV L))) fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped1.sem : SemLoc sig).isScoped .scVector = true; decide⟩⟩),
    SparseCore.bigSep_erase' (Finset.mem_erase.mpr ⟨by simp [cB, cG]; decide, Finset.mem_erase.mpr ⟨by simp [cA, cG]; decide,
      (mem_ownCells (g := cG d (cV L) (jV L))).mpr ⟨rfl, by show (SemLoc.dma cc0_scratch3.sem : SemLoc sig).isScoped .scVector = true; decide⟩⟩⟩)]

/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The values along the task -/

/-- The worker's 32 targets. -/
def tgts : S32.Idx → Elt F .i32 := (tB L).view.read (Elt F) (m (tLoc d))

/-- A target as the task's list holds it. -/
theorem tgts_apply (y : S32.Idx) : tgts m d L y = m (tLoc d) ((tB L).view.emb y) :=
  (View.read_apply _ _).trans (cast_eq _ _)

/-- The list's contents after the fetch are the targets, each naming a row. -/
theorem list_in (hpre : PreOK m) (fs : Buf (Elt F) ((V d (cV L) (jV L)).loc cc0_scratch0)) :
    ∀ x, BitVec.toNat (iS.view.read (Elt F) (View.write (Elt F) iS.view fs (tgts m d L) Finset.univ) x : BitVec 32)
      < S100000x128.size gathers_S100000x128_S32x128.axis := by
  intro x
  rw [View.write_whole_univ]
  simp only [Memref.view_whole, View.read_whole]
  rw [tgts_apply]
  exact hpre d _

/-- Place `r` of a row of 32. -/
def row32 (r : Fin 32) : S32.Idx := fun | 0 => r

/-- The group of 128 columns the worker's columns lie in. -/
theorem grp_lt (L : grid0.Coords) (k : Fin 128) : (64 * (L 1).val + 32 * (L 0).val) / 128 * 128 + k.val < 1024 := by
  have h0 : (L 0).val < 2 := (L 0).isLt
  have h1 : (L 1).val < 16 := (L 1).isLt
  omega

/-- The gathered rows: of row `r`'s target row of the transposed logits, the worker's group of 128 columns. -/
def gath : S32x128.Idx → Elt F .f32 := fun x =>
  predT m d (ix2 ⟨BitVec.toNat (tgts m d L (row32 (x 0)) : BitVec 32) % 100000, Nat.mod_lt _ (by omega)⟩
    ⟨(64 * (L 1).val + 32 * (L 0).val) / 128 * 128 + (x 1).val, grp_lt L (x 1)⟩)

/-- The rows' buffer after the gather holds the gathered rows. -/
theorem gathered_eq (hpre : PreOK m) (fs : Buf (Elt F) ((V d (cV L) (jV L)).loc cc0_scratch0))
    (fr : Buf (Elt F) ((V d (cV L) (jV L)).loc cc0_scratch1)) (hn : S32.numel = S32x128.size gathers_S100000x128_S32x128.axis') :
    View.write (Elt F) rS.view fr
      (SparseCore.gatherPayload gathers_S100000x128_S32x128 (View.read (Elt F) (xG L).view (predT m d))
        (SparseCore.rows (View.read (Elt F) iS.view (View.write (Elt F) iS.view fs (tgts m d L) Finset.univ)) hn (list_in m d L hpre fs)))
      Finset.univ = gath m d L := by
  rw [View.write_whole_univ]
  funext x
  show View.read (Elt F) (xG L).view (predT m d) _ = _
  rw [View.read_apply]
  refine (cast_eq _ _).trans (congrArg (predT m d) ?_)
  funext a
  refine Fin.ext ?_
  show (k0_off2 L) a + 1 * _ = _
  rw [off2_eq, one_mul]
  match a with
  | 0 =>
    refine (Nat.zero_add _).trans ?_
    refine (congrArg Fin.val (Shape.Gathers.idx_axis gathers_S100000x128_S32x128 _ x)).trans ?_
    show BitVec.toNat (View.read (Elt F) iS.view (View.write (Elt F) iS.view fs (tgts m d L) Finset.univ) _ : BitVec 32) = _
    rw [View.write_whole_univ]
    simp only [Memref.view_whole, View.read_whole]
    have hy : S32.rowMajor.symm ((x 0).cast hn.symm) = row32 (x 0) := by
      rw [Equiv.symm_apply_eq]
      exact Fin.ext (Shape.rowMajor_val_one (row32 (x 0))).symm
    refine (congrArg (fun y => BitVec.toNat (tgts m d L y : BitVec 32)) hy).trans ?_
    refine (Nat.mod_eq_of_lt ?_).symm
    rw [tgts_apply]
    exact hpre d _
  | 1 =>
    exact congrArg (_ + ·) (Shape.Gathers.idx_of_ne gathers_S100000x128_S32x128 _ x 1 (by decide))

/-- The picked logits of the worker's 32 columns. -/
def pick : S32.Idx → Elt F .f32 := fun y => picked m d ((vB L).view.emb y)

/-- Where row `r`'s own column sits in the gathered rows. -/
theorem lane_lt (L : grid0.Coords) (r : Fin 32) : (64 * (L 1).val + 32 * (L 0).val) % 128 + r.val < 128 := by
  have h0 : (L 0).val < 2 := (L 0).isLt
  have h1 : (L 1).val < 16 := (L 1).isLt
  omega

/-- The place of row `r`'s own column in the gathered rows. -/
def own (r : Fin 32) : S32x128.Idx := fun
  | 0 => r
  | 1 => ⟨(64 * (L 1).val + 32 * (L 0).val) % 128 + r.val, lane_lt L r⟩

/-- The column of the transposed logits the worker's place `y` is. -/
theorem emb_vB (y : S32.Idx) : (((vB L).view.emb y) 0).val = 64 * (L 1).val + 32 * (L 0).val + (y 0).val := by
  show (k0_off3 L) 0 + 1 * (y 0).val = _
  rw [k0_off3_eq, one_mul]; rfl

/-- The targets' slice and the picked logits' slice lie at the same places. -/
theorem emb_tB (y : S32.Idx) : (tB L).view.emb y = (vB L).view.emb y := by
  funext a
  refine Fin.ext ?_
  show (k0_off1 L) a + 1 * (y a).val = (k0_off3 L) a + 1 * (y a).val
  rw [k0_off1_eq, k0_off3_eq]

/-- Each gathered row at its own column is the picked logit. -/
theorem gath_own (r : Fin 32) : gath m d L (own L r) = pick m d L (row32 r) := by
  refine congrArg (predT m d) ?_
  funext a
  match a with
  | 0 =>
    refine Fin.ext ?_
    show BitVec.toNat (tgts m d L (row32 r) : BitVec 32) % 100000 = _
    rw [tgts_apply, emb_tB]; rfl
  | 1 =>
    refine Fin.ext ?_
    refine Eq.trans ?_ (emb_vB L (row32 r)).symm
    show (64 * (L 1).val + 32 * (L 0).val) / 128 * 128 + ((64 * (L 1).val + 32 * (L 0).val) % 128 + r.val) = 64 * (L 1).val + 32 * (L 0).val + r.val
    omega

/-- The first indexed load's lanes. -/
theorem load1_eq (x : S16.Idx) :
    loadIdx ((rS.access (.whole S32x128)).read (Elt F) (gath m d L)) ![k0_pay1, k0_pay2 L k0_pay1] (chk1 L) x
      = pick m d L (row32 ⟨0 + (x 0).val, lt_of_lt_of_le (Nat.add_lt_add_left (x 0).isLt 0) (by decide)⟩) := by
  rw [← gath_own]
  refine congrArg (gath m d L) (funext fun a => Fin.ext ?_)
  match a with
  | 0 =>
    refine (Nat.zero_add _).trans ((one_mul _).trans ?_)
    rw [eq_lane16 x]
    exact (pay1_val (x 0)).trans (Nat.zero_add _).symm
  | 1 =>
    refine (Nat.zero_add _).trans ((one_mul _).trans ?_)
    rw [eq_lane16 x]
    refine (pay2_val L (x 0)).trans (congrArg (fun n => (64 * (L 1).val + 32 * (L 0).val) % 128 + n) (Nat.zero_add _).symm)

/-- The second indexed load's lanes. -/
theorem load2_eq (x : S16.Idx) :
    loadIdx ((rS.access (.whole S32x128)).read (Elt F) (gath m d L)) ![k0_pay3, k0_pay4 L k0_pay3] (chk2 L) x
      = pick m d L (row32 ⟨16 + (x 0).val, lt_of_lt_of_le (Nat.add_lt_add_left (x 0).isLt 16) (by decide)⟩) := by
  rw [← gath_own]
  refine congrArg (gath m d L) (funext fun a => Fin.ext ?_)
  match a with
  | 0 =>
    refine (Nat.zero_add _).trans ((one_mul _).trans ?_)
    rw [eq_lane16 x]
    exact pay3_val (x 0)
  | 1 =>
    refine (Nat.zero_add _).trans ((one_mul _).trans ?_)
    rw [eq_lane16 x]
    exact pay4_val L (x 0)

/-- What the two stores leave in the output scratch: the picked logits. -/
theorem out_eq (fo : Buf (Elt F) ((V d (cV L) (jV L)).loc cc0_scratch2)) :
    oS.view.read (Elt F) (oS.view.writes (Elt F) fo
      [⟨Rect.unit ![16] S16.size inb_S32_S16_16, loadIdx ((rS.access (.whole S32x128)).read (Elt F) (gath m d L)) ![k0_pay3, k0_pay4 L k0_pay3] (chk2 L)⟩,
       ⟨Rect.unit ![0] S16.size inb_S32_S16_0, loadIdx ((rS.access (.whole S32x128)).read (Elt F) (gath m d L)) ![k0_pay1, k0_pay2 L k0_pay1] (chk1 L)⟩])
      = pick m d L := by
  funext y
  refine View.read_writes_apply_of_pieces _ _ (pick m d L) _ ?_ y ?_
  · intro p hp x
    rcases List.mem_cons.mp hp with rfl | hp
    · refine (load2_eq m d L x).trans (congrArg (pick m d L) (funext fun a => Fin.ext ?_))
      match a with
      | 0 => exact congrArg (16 + ·) (one_mul _).symm
    · rw [List.mem_singleton] at hp
      subst hp
      refine (load1_eq m d L x).trans (congrArg (pick m d L) (funext fun a => Fin.ext ?_))
      match a with
      | 0 => exact congrArg (0 + ·) (one_mul _).symm
  · have hy : (y 0).val < 32 := (y 0).isLt
    by_cases h : (y 0).val < 16
    · refine ⟨_, List.mem_cons_of_mem _ List.mem_cons_self, ?_⟩
      rw [Rect.mem_set_unit]
      intro a
      match a with
      | 0 => exact ⟨Nat.zero_le _, h⟩
    · refine ⟨_, List.mem_cons_self, ?_⟩
      rw [Rect.mem_set_unit]
      intro a
      match a with
      | 0 => exact ⟨Nat.le_of_not_lt h, hy⟩

/-- The worker's block written with the picked logits is the whole call's result there. -/
theorem vB_written (f : Buf (Elt F) (vLoc d)) :
    ((vB L).view.loc (V d (cV L) (jV L)) ↦[(vB L).view.set]{fullShare} (vB L).view.writes (Elt F) f [⟨Rect.whole S32, pick m d L⟩] : sProp 𝕄)
      = vBlk d (wL L) (picked m d) := by
  refine Eq.trans (pointsTo_congr (g := picked m d) fun i hi => ?_) (pts_vB d L _)
  obtain ⟨y, -, rfl⟩ := Finset.mem_map.mp hi
  have h := View.read_writes_apply_of_pieces (vB L).view f (pick m d L) [⟨Rect.whole S32, pick m d L⟩]
    (fun p hp x => by
      rw [List.mem_singleton] at hp; subst hp
      exact congrArg (pick m d L) (funext fun a => Fin.ext (((Nat.zero_add _).trans (one_mul _)).symm)))
    y ⟨_, List.mem_cons_self, (Rect.set_whole S32).symm ▸ Finset.mem_univ y⟩
  rw [View.read_apply] at h
  exact (cast_eq _ _).symm.trans h

/-! ## The task -/

/-- One task: from its targets, its share of the transposed logits and its block of the result to the
    same with the block holding the picked logits. -/
theorem tile_body (hF : (K (F := F)).Facts) (hpre : PreOK m) (O : CellTallies nD τ sig (HIx 1)) (W : Waits sig (HIx 1)) (hO : ∀ g, O g none = 0) :
    iprop(levAts (K (F := F)).L (K (F := F)).lev
        ∗ (emp : sProp 𝕄)
        ∗ work m d (wL L) (m (vLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xV (Memref.isWhole_whole _) tV (Memref.isWhole_whole _) vV (Memref.isWhole_whole _)
            iS (Memref.isWhole_whole _) rS (Memref.isWhole_whole _) oS (Memref.isWhole_whole _) cc0_scratch3 cc0_scoped0 cc0_scoped1)
          fun _ => iprop(work m d (wL L) (picked m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel work
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, ⟨%fo, Hc⟩, Hbufs⟩, ⟨HsemA, HsemB, HsemG, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_tB (F := F) d L _).symm) $$ Hi
  ihave Ho' := (Entails.of_eq (pts_vB (F := F) d L _).symm) $$ Ho
  ihave Hx' := (Entails.of_eq (pts_xV (F := F) d L _ _).symm) $$ Hx
  ihave Hs' := (Entails.of_eq (pts_iS (F := F) d L _).symm) $$ Hs
  ihave Hr' := (Entails.of_eq (pts_rS (F := F) d L _).symm) $$ Hr
  ihave Hc' := (Entails.of_eq (pts_oS (F := F) d L _).symm) $$ Hc
  sl_exec
  ihave Hxs := (pointsTo_split_subset (q := shr (wL L)) (f := predT m d) (S := Finset.univ) (Finset.subset_univ (xG L).view.set)).1 $$ Hx'
  icases Hxs with ⟨Hxs, Hxr⟩
  have hrs : (rS).view.set = Finset.univ := View.set_whole _
  have hss : (iS).view.set = Finset.univ := View.set_whole _
  ihave Hr'' := (Entails.of_eq (show ((rS).view.loc (V d (cV L) (jV L)) ↦{fullShare} fr : sProp 𝕄)
      = (rS).view.loc (V d (cV L) (jV L)) ↦[(rS).view.set]{fullShare} fr by rw [hrs])) $$ Hr'
  ihave Hs'' := (Entails.of_eq (show ((iS).view.loc (V d (cV L) (jV L)) ↦{fullShare} View.write (Elt F) (iS).view fs (tile_body.sl.dma0 m d L) Finset.univ : sProp 𝕄)
      = (iS).view.loc (V d (cV L) (jV L)) ↦[(iS).view.set]{fullShare} View.write (Elt F) (iS).view fs (tgts m d L) Finset.univ
      by rw [hss]; rfl)) $$ Hs'
  have hN : ∀ h : S100000x128.Gathers 0 S32x128, ∑ j, ((rS).slice (S32x128.rowRect h.axis' j) (S32x128.stride_rowRect h.axis' j)).view.dmaCredit
      = (rS).view.dmaCredit := by decide
  iapply (SparseCore.wp_indirectGatherLocal countersEmb 𝒱₀ (V d (cV L) (jV L)) none (hg := gathers_S100000x128_S32x128) (default : HIx 1)
      (rS).view.dmaCredit (hN _) (by decide) (list_in m d L hpre fs)) $$ [Hxs Hr'' Hs'' HsemG]
  · isplitl [Hxs]; · iexact Hxs
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rS).view.dmaCredit = _)) $$ [Hfl HO]
  · isplitl [Hfl]; · iexact Hfl
    isplitl [HO]; · iexact HO
    iapply (Transfers.MayWaits.elim (SemLoc.dma cc0_scratch3.sem)) $$ Hmw
  iintro ⟨⟨Hr', Hxs, Hs'⟩, HsemG, HO⟩
  ihave Hx' := (pointsTo_split_subset (q := shr (wL L)) (f := predT m d) (S := Finset.univ) (Finset.subset_univ (xG L).view.set)).2 $$ [Hxs Hxr]; · isplitl [Hxs] <;> iassumption
  ihave Hr3 := (Entails.of_eq (show ((rS).view.loc (V d (cV L) (jV L)) ↦[(rS).view.set]{fullShare} _ : sProp 𝕄)
      = (rS).view.loc (V d (cV L) (jV L)) ↦{fullShare} _ by rw [hrs])) $$ Hr'
  ihave Hs3 := (Entails.of_eq (show ((iS).view.loc (V d (cV L) (jV L)) ↦[(iS).view.set]{fullShare} _ : sProp 𝕄)
      = (iS).view.loc (V d (cV L) (jV L)) ↦{fullShare} _ by rw [hss])) $$ Hs'
  have hn : S32.numel = S32x128.size gathers_S100000x128_S32x128.axis' := by decide
  ihave Hr4 := (Entails.of_eq ((congrArg (fun f => ((rS).view.loc (V d (cV L) (jV L)) ↦{fullShare} f : sProp 𝕄)) (gathered_eq m d L hpre fs fr hn)).trans
      (pts_rS_access (F := F) d L (gath m d L)).symm)) $$ Hr3
  sl_exec
  rw [wp_assume_of _ _ _ _ (chk1 L)]
  iapply (SparseCore.wp_vectorLoadIdx 𝒱₀ (V d (cV L) (jV L)) none Set.univ (base := (rS : Memref sig .scVector .vmem S32x128 .f32)) (S := Finset.univ) (q := fullShare) (Finset.subset_univ _)) $$ Hr4; iintro Hr4
  sl_exec
  rw [wp_assume_of _ _ _ _ (chk2 L)]
  iapply (SparseCore.wp_vectorLoadIdx 𝒱₀ (V d (cV L) (jV L)) none Set.univ (base := (rS : Memref sig .scVector .vmem S32x128 .f32)) (S := Finset.univ) (q := fullShare) (Finset.subset_univ _)) $$ Hr4; iintro Hr4
  sl_exec
  sl_step
  have hw : tile_body.sl.dma2 m d L fo = pick m d L := out_eq m d L fo
  ihave Ho := (Entails.of_eq (((congrArg (fun w => ((vB L).view.loc (V d (cV L) (jV L)) ↦[(vB L).view.set]{fullShare}
      (vB L).view.writes (Elt F) (m (vLoc d)) [⟨Rect.whole S32, w⟩] : sProp 𝕄)) hw)).trans (vB_written m d L _))) $$ Ho'
  isplitl [Hi' Hx' Ho]
  · isplitl [Hi']; · iapply (Entails.of_eq (pts_tB (F := F) d L _)); iexact Hi'
    isplitl [Hx']; · iexact Hx'
    iexact Ho
  ihave Hr := (Entails.of_eq (pts_rS_access (F := F) d L _)) $$ Hr4
  isplitl [Hs3 Hr Hc' Hbufs]
  · isplitl [Hs3]; · iexists _; iexact Hs3
    isplitl [Hr]; · iexists _; iexact Hr
    isplitl [Hc']; · iexists _; iexact Hc'
    iexact Hbufs
  isplitl [HsemA HsemB HsemG Hsems]
  · isplitl [HsemA]; · iexact HsemA
    isplitl [HsemB]; · iexact HsemB
    isplitl [HsemG]; · iexact HsemG
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch theorem's obligation -/

/-- A task's grid coordinates, of its SparseCore and its subcore. -/
def coordsV (c : Fin (grid0.bound 0)) (s : Fin (grid0.bound 1)) : grid0.Coords :=
  fun | 0 => c | 1 => s | ⟨_ + 2, h⟩ => absurd h (Nat.not_lt.2 (Nat.le_add_left _ _))

/-- The body of a task is the printed one at the task's coordinates. -/
theorem defs₀_vector (c : Fin τ.nSC) (s : Fin τ.nSub) :
    defs₀ (F := F) (.scVector c s) 0 ()
      = SparseCore.onTile hcore0 hsub0 (fun c s => cc0__sc_gather_body (coordsV c s)
          xV (Memref.isWhole_whole _) tV (Memref.isWhole_whole _) vV (Memref.isWhole_whole _)
          iS (Memref.isWhole_whole _) rS (Memref.isWhole_whole _) oS (Memref.isWhole_whole _) cc0_scratch3 cc0_scoped0 cc0_scoped1) ⟨⟩ c s := rfl

omit [FloatOps F] [Named F] in
/-- The waits a task adds are among those that the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the SparseCore call, as the launch theorem asks for it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono Idealize.ShloMosaic.frame _ _ fun _ => obl_post)

end Tile

end Cert.KernelIdeal.Sc

end
-- ==== Proof.Body.lean ====
/- The TensorCore kernel's body in closed form: the printed text adds one group of 32 rows after the
   other, 31 groups and a rest of 8 rows per stream, for four streams; here the groups are a
   recursion on their number, and the printed body is shown to be that. -/
module

public import proofs.«01_k».proof.Proof.Gen.KernelIdeal.Skeleton

@[expose] public section

noncomputable section

namespace Cert.KernelIdeal.TcBody

open Idealize.ShloMosaic Idealize.SL.Sem Cert.KernelIdeal Cert.KernelIdeal.Gen

variable {F : FTy → Type} [FloatOps F] [Named F]

/-- Eight rows starting at row `b` lie inside a block of 1000 rows when `b + 8` is at most 1000. -/
theorem slices_at (b : ℕ) (h : b + 8 ≤ 1000) : S1000x1024.Slices ![b, 0] S8x1024 :=
  ⟨rfl, fun a => by
    fin_cases a
    · exact h
    · exact Nat.le_refl _⟩

/-- `1 + 2^(x·c)` of the eight rows of a block from row `b`, `c` the named constant `nlog2e`. -/
def eRows (x : FVec F S1000x1024 .f32) (b : ℕ) (h : b + 8 ≤ 1000) : FVec F S8x1024 .f32 :=
  addf (broadcast S8x1024 (Scalar.ofBits .f32 0x3F800000#32))
    (exp2 (mulf (extractStridedSlice S8x1024 ![b, 0] x (slices_at b h))
      (broadcast S8x1024 (Named.named κ "nlog2e" 0xBFB8AA3B#32))))

/-- The logarithm to the base 2 of eight rows by one column block: the logarithm times the named
    constant `log2e`. -/
def lg2 (x : FVec F S8x1024 .f32) : FVec F S8x1024 .f32 :=
  mulf (log x) (broadcast S8x1024 (Named.named κ "log2e" 0x3FB8AA3B#32))

/-- The sum after `n` groups of 32 rows of a block: each group adds the logarithm of the product of
    its four 8-row terms. -/
def quads (x : FVec F S1000x1024 .f32) (s : FVec F S8x1024 .f32) (n : ℕ) :
    n ≤ 31 → FVec F S8x1024 .f32 :=
  Nat.rec (motive := fun n => n ≤ 31 → FVec F S8x1024 .f32) (fun _ => s)
    (fun n ih h => addf (ih (by omega))
      (lg2 (mulf (mulf (eRows x (32 * n) (by omega)) (eRows x (32 * n + 8) (by omega)))
        (mulf (eRows x (32 * n + 16) (by omega)) (eRows x (32 * n + 24) (by omega)))))) n

/-- The sum after one whole block: 31 groups of 32 rows, then the last eight rows. -/
def blockSum (x : FVec F S1000x1024 .f32) (s : FVec F S8x1024 .f32) : FVec F S8x1024 .f32 :=
  addf (quads x s 31 (Nat.le_refl _)) (lg2 (eRows x 992 (by omega)))

/-- The sum after one grid step: the four streams' blocks, one after the other. -/
def stepSum (x1 x2 x3 x4 : Vec F S1000x1024 .f32) (s : FVec F S8x1024 .f32) :
    FVec F S8x1024 .f32 :=
  blockSum (shapeCast S1000x1024 x4 shapeCasts_S1000x1024_S1000x1024)
    (blockSum (shapeCast S1000x1024 x3 shapeCasts_S1000x1024_S1000x1024)
      (blockSum (shapeCast S1000x1024 x2 shapeCasts_S1000x1024_S1000x1024)
        (blockSum (shapeCast S1000x1024 x1 shapeCasts_S1000x1024_S1000x1024) s)))

/-- The condition of the body's first branch: the grid step is the first one. -/
def firstStep (i : grid1.Coords) : BitVec 1 :=
  Scalar.cmpi .ne
    (Scalar.extui (Scalar.cmpi .eq (BitVec.ofNat 32 (i 0).val) 0#32 : BitVec 1) : BitVec 32) 0#32

/-- The TensorCore kernel's body: clear the sum at the first step, add the step's four blocks to
    it, and at the last step write the sum over the eight rows. -/
def tcBody (i : grid1.Coords) (arg1 : Memref sig .tc .vmem S1000x1024 .f32) (harg1 : arg1.IsWhole) (arg2 : Memref sig .tc .vmem S1000x1024 .f32) (harg2 : arg2.IsWhole) (arg3 : Memref sig .tc .vmem S1000x1024 .f32) (harg3 : arg3.IsWhole) (arg4 : Memref sig .tc .vmem S1000x1024 .f32) (harg4 : arg4.IsWhole) (arg5 : Memref sig .tc .vmem S1024 .f32) (harg5 : arg5.IsWhole) (arg6 : Memref sig .tc .vmem S8x1024 .f32) (harg6 : arg6.IsWhole) :
    Prog (TpuEff nD τ sig (Elt F) Λ₀ .tc) PUnit := do
  if k1_h1 : firstStep i = 1#1 then do
    let _v3903 : Vec F S8x1024 .f32 ← Prog.lift (.load arg6 (Rect.unit (s := S8x1024) ![0, 0] S8x1024.size inb_S8x1024_S8x1024_0_0).toLoadRect (View.loadsAt_vmem h_S8x1024))
    Prog.lift (.store arg6 (Rect.unit (s := S8x1024) ![0, 0] S8x1024.size inb_S8x1024_S8x1024_0_0) (k1_pay3 (F := F)) Finset.univ (View.stores_vmem_bits_univ h_S8x1024 rfl) (.inl rfl))
    pure ⟨⟩
  else do
    pure ⟨⟩
  let s : Vec F S8x1024 .f32 ← Prog.lift (.load arg6 (Rect.unit (s := S8x1024) ![0, 0] S8x1024.size inb_S8x1024_S8x1024_0_0).toLoadRect (View.loadsAt_vmem h_S8x1024))
  let x1 : Vec F S1000x1024 .f32 ← Prog.lift (.load arg1 (Rect.unit (s := S1000x1024) ![0, 0] S1000x1024.size inb_S1000x1024_S1000x1024_0_0).toLoadRect (View.loadsAt_vmem h_S1000x1024))
  let x2 : Vec F S1000x1024 .f32 ← Prog.lift (.load arg2 (Rect.unit (s := S1000x1024) ![0, 0] S1000x1024.size inb_S1000x1024_S1000x1024_0_0).toLoadRect (View.loadsAt_vmem h_S1000x1024))
  let x3 : Vec F S1000x1024 .f32 ← Prog.lift (.load arg3 (Rect.unit (s := S1000x1024) ![0, 0] S1000x1024.size inb_S1000x1024_S1000x1024_0_0).toLoadRect (View.loadsAt_vmem h_S1000x1024))
  let x4 : Vec F S1000x1024 .f32 ← Prog.lift (.load arg4 (Rect.unit (s := S1000x1024) ![0, 0] S1000x1024.size inb_S1000x1024_S1000x1024_0_0).toLoadRect (View.loadsAt_vmem h_S1000x1024))
  let _v3896 : Vec F S8x1024 .f32 ← Prog.lift (.load arg6 (Rect.unit (s := S8x1024) ![0, 0] S8x1024.size inb_S8x1024_S8x1024_0_0).toLoadRect (View.loadsAt_vmem h_S8x1024))
  Prog.lift (.store arg6 (Rect.unit (s := S8x1024) ![0, 0] S8x1024.size inb_S8x1024_S8x1024_0_0) (k1_pay1 (stepSum x1 x2 x3 x4 s)) Finset.univ (View.stores_vmem_bits_univ h_S8x1024 rfl) (.inl rfl))
  if k1_h2 : k1_cond2 i = 1#1 then do
    let v3902 : Vec F S8x1024 .f32 ← Prog.lift (.load arg6 (Rect.unit (s := S8x1024) ![0, 0] S8x1024.size inb_S8x1024_S8x1024_0_0).toLoadRect (View.loadsAt_vmem h_S8x1024))
    let _v3904 : Vec F S1024 .f32 ← Prog.lift (.load arg5 (Rect.unit (s := S1024) ![0] S1024.size inb_S1024_S1024_0).toLoadRect (View.loadsAt_vmem h_S1024))
    Prog.lift (.store arg5 (Rect.unit (s := S1024) ![0] S1024.size inb_S1024_S1024_0) (k1_pay2 v3902) Finset.univ (View.stores_vmem_bits_univ h_S1024 rfl) (.inl rfl))
    pure ⟨⟩
  else do
    pure ⟨⟩
  pure ⟨⟩

/-- Two sequencings after a branch are the branch of the two cases, each followed by them. -/
theorem branch_bind.{v} {E : Type → Type v} {β γ δ : Type} {c : Prop} [Decidable c]
    (A : c → Prog E δ) (B : ¬ c → Prog E δ) (D : c → Prog E β) (D' : ¬ c → Prog E β)
    (g : β → Prog E γ) (g' : γ → Prog E δ)
    (hA : ∀ h, bind (bind (D h) g) g' = A h) (hB : ∀ h, bind (bind (D' h) g) g' = B h) :
    bind (bind (dite c D D') g) g' = dite c A B := by
  by_cases h : c
  · rw [dif_pos h, dif_pos h]; exact hA h
  · rw [dif_neg h, dif_neg h]; exact hB h

set_option maxRecDepth 1000000 in
set_option maxHeartbeats 4000000 in
/-- The printed body is the one in closed form. -/
theorem tc_body_eq : cc1__tc_body (F := F) = tcBody (F := F) := by
  funext i arg1 harg1 arg2 harg2 arg3 harg3 arg4 harg4 arg5 harg5 arg6 harg6
  unfold cc1__tc_body k1_part85 k1_part1 tcBody
  refine branch_bind _ _ _ _ _ _ (fun h => ?_) (fun h => ?_)
  · exact rfl
  · exact rfl

end Cert.KernelIdeal.TcBody
-- ==== Proof.TcRun.lean ====
/- The two TensorCore kernels' bodies run at symbolic operands: what each leaves in its buffers. -/
module

public import proofs.«01_k».proof.Proof.Setup
public import proofs.«01_k».proof.Proof.Body

@[expose] public section

set_option maxRecDepth 16384

noncomputable section

namespace Cert.KernelIdeal.Tc

open Cert.KernelIdeal Cert.KernelIdeal.Gen Cert.KernelIdeal.Sc Cert.KernelIdeal.TcBody
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## Whole-buffer loads and stores -/

/-- A unit rectangle of the whole shape's extents starting at the origin keeps every index. -/
theorem emb_full {s : Shape} {off : Fin s.rank → ℕ} (h : ∀ a, off a + s.size a ≤ s.size a)
    (h0 : ∀ a, off a = 0) (x : s.Idx) : (Rect.unit off s.size h).emb x = x := by
  funext a
  apply Fin.ext
  rw [Rect.emb_apply]
  show off a + 1 * (x a : ℕ) = x a
  rw [h0 a]; omega

section Ops

variable {s : Shape} {e : EltTy} (c : Dev nD) (M : Memref sig .tc .vmem s e)
  {off : Fin s.rank → ℕ} (h : ∀ a, off a + s.size a ≤ s.size a) (h0 : ∀ a, off a = 0)

include h0 in
/-- A load of the whole memref gives what it holds. -/
theorem wp_load_owns (E : Set ℕ) {α : Type} {Q : α → sProp 𝕄} (q : PosShare TreeShare) (X : s.Idx → Elt F e)
    {hl : M.view.LoadsAt (Rect.unit off s.size h).toLoadRect}
    {k : (s.Idx → Elt F e) → Prog (TpuEff nD τ sig (Elt F) Λ₀ .tc) α} :
    (owns (c : Thread nD τ) M q X : sProp 𝕄)
      ⊢ iprop((owns (c : Thread nD τ) M q X -∗ wp Idealize.ShloMosaic.frame (wpE (defs₀ (F := F)) 𝒱₀ (c : Thread nD τ) none) E (k X) Q)
        -∗ wp Idealize.ShloMosaic.frame (wpE (defs₀ (F := F)) 𝒱₀ (c : Thread nD τ) none) E
          (.op (.load M (Rect.unit off s.size h).toLoadRect hl) k) Q) := by
  unfold owns
  iintro ⟨%f, %hf, H⟩ Hk
  have hv : M.view.readAt (Elt F) (Rect.unit off s.size h).toLoadRect f = X := by
    funext x
    rw [← hf]
    exact congrArg (M.view.read (Elt F) f) (emb_full h h0 x)
  have hld := wp_load (defs := defs₀ (F := F)) 𝒱₀ (c : Thread nD τ) none E (Γ := []) (Q := Q) (m := M) (r := (Rect.unit off s.size h).toLoadRect)
    (hl := hl) (k := k) (S := M.view.set) (q := q) (f := f) (View.setOn_subset_set _ _)
  rw [hv] at hld
  iapply hld $$ [H]
  · iexact H
  iintro H
  iapply Hk
  iexists f
  isplitr
  · ipureintro; exact hf
  iexact H

include h0 in
/-- A store of the whole memref leaves what is stored. -/
theorem wp_store_owns (E : Set ℕ) {α : Type} {Q : α → sProp 𝕄} (X : s.Idx → Elt F e) (w : s.Idx → Elt F e)
    {hx : (M.access (Rect.unit off s.size h)).Stores Finset.univ}
    {hm : (Finset.univ : Finset s.Idx) = Finset.univ ∨ ∀ a, (Rect.unit off s.size h).stride a = 1}
    {k : PUnit → Prog (TpuEff nD τ sig (Elt F) Λ₀ .tc) α} :
    (owns (c : Thread nD τ) M fullShare X : sProp 𝕄)
      ⊢ iprop((owns (c : Thread nD τ) M fullShare w -∗ wp Idealize.ShloMosaic.frame (wpE (defs₀ (F := F)) 𝒱₀ (c : Thread nD τ) none) E (k ⟨⟩) Q)
        -∗ wp Idealize.ShloMosaic.frame (wpE (defs₀ (F := F)) 𝒱₀ (c : Thread nD τ) none) E
          (.op (.store M (Rect.unit off s.size h) w Finset.univ hx hm) k) Q) := by
  unfold owns
  iintro ⟨%f, %hf, H⟩ Hk
  have hst := wp_store (defs := defs₀ (F := F)) 𝒱₀ (c : Thread nD τ) none E (Γ := []) (Q := Q) (m := M) (r := Rect.unit off s.size h)
    (w := w) (Mk := Finset.univ) (hx := hx) (hm := hm) (k := k) (S := M.view.set) (f := f) (View.set_slice_subset _ _)
  iapply hst $$ [H]
  · iexact H
  iintro H
  iapply Hk
  iexists _
  isplitr; swap
  · iexact H
  ipureintro
  funext x
  exact (congrArg (M.view.read (Elt F) _) (emb_full h h0 x).symm).trans
    (View.read_slice_write_emb (v := M.view) (Rect.unit off s.size h) f w (Finset.mem_univ x))

end Ops

/-! ## The reduction kernel's body -/

/-- The offsets of a whole-buffer access at rank two are zero. -/
theorem zero2 : ∀ a : Fin 2, (![0, 0] : Fin 2 → ℕ) a = 0 := by decide

/-- The offsets of a whole-buffer access at rank one are zero. -/
theorem zero1 : ∀ a : Fin 1, (![0] : Fin 1 → ℕ) a = 0 := by decide

/-- The accumulator after one grid step, from what it held before. -/
def accStep (i : grid1.Coords) (X1 X2 X3 X4 : Vec F S1000x1024 .f32) (X6 : Vec F S8x1024 .f32) : Vec F S8x1024 .f32 :=
  k1_pay1 (stepSum X1 X2 X3 X4 (if firstStep i = 1#1 then k1_pay3 else X6))

/-- The body at one grid step: the four blocks stay, the accumulator takes its step, and the result is
    written exactly when the step is the last. -/
theorem tcBody_wp (c : Dev nD) (i : grid1.Coords)
    (a1 : Memref sig .tc .vmem S1000x1024 .f32) (h1 : a1.IsWhole) (a2 : Memref sig .tc .vmem S1000x1024 .f32) (h2 : a2.IsWhole)
    (a3 : Memref sig .tc .vmem S1000x1024 .f32) (h3 : a3.IsWhole) (a4 : Memref sig .tc .vmem S1000x1024 .f32) (h4 : a4.IsWhole)
    (a5 : Memref sig .tc .vmem S1024 .f32) (h5 : a5.IsWhole) (a6 : Memref sig .tc .vmem S8x1024 .f32) (h6 : a6.IsWhole)
    (X1 X2 X3 X4 : Vec F S1000x1024 .f32) (X5 : Vec F S1024 .f32) (X6 : Vec F S8x1024 .f32)
    (E : Set ℕ) (Q : PUnit → sProp 𝕄) :
    iprop(owns (c : Thread nD τ) a1 fullShare X1 ∗ owns (c : Thread nD τ) a2 fullShare X2 ∗ owns (c : Thread nD τ) a3 fullShare X3
        ∗ owns (c : Thread nD τ) a4 fullShare X4 ∗ owns (c : Thread nD τ) a5 fullShare X5 ∗ owns (c : Thread nD τ) a6 fullShare X6
        ∗ (iprop(owns (c : Thread nD τ) a1 fullShare X1 ∗ owns (c : Thread nD τ) a2 fullShare X2 ∗ owns (c : Thread nD τ) a3 fullShare X3
          ∗ owns (c : Thread nD τ) a4 fullShare X4
          ∗ owns (c : Thread nD τ) a5 fullShare (if k1_cond2 i = 1#1 then k1_pay2 (accStep i X1 X2 X3 X4 X6) else X5)
          ∗ owns (c : Thread nD τ) a6 fullShare (accStep i X1 X2 X3 X4 X6)) -∗ Q ⟨⟩))
      ⊢ wp Idealize.ShloMosaic.frame (wpE (defs₀ (F := F)) 𝒱₀ (c : Thread nD τ) none) E
          (cc1__tc_body i a1 h1 a2 h2 a3 h3 a4 h4 a5 h5 a6 h6) Q := by
  rw [tc_body_eq]
  unfold tcBody accStep
  by_cases hf : firstStep i = 1#1
  all_goals by_cases hl : k1_cond2 i = 1#1
  all_goals simp only [hf, hl, if_true, if_false, dif_pos, dif_neg, not_false_eq_true, Prog.lift, Prog.bind_op, Prog.bind_ret, pure_bind, bind_pure]
  all_goals iintro ⟨H1, H2, H3, H4, H5, H6, Hk⟩
  -- the first step's clearing of the accumulator
  on_goal 1 =>
    iapply (wp_load_owns c a6 _ zero2 E fullShare _) $$ [H6]; (· iexact H6); iintro H6
    iapply (wp_store_owns c a6 _ zero2 E _ _) $$ [H6]; (· iexact H6); iintro H6
  on_goal 2 =>
    iapply (wp_load_owns c a6 _ zero2 E fullShare _) $$ [H6]; (· iexact H6); iintro H6
    iapply (wp_store_owns c a6 _ zero2 E _ _) $$ [H6]; (· iexact H6); iintro H6
  -- the step's sum
  all_goals
    iapply (wp_load_owns c a6 _ zero2 E fullShare _) $$ [H6]; (· iexact H6); iintro H6
    iapply (wp_load_owns c a1 _ zero2 E fullShare _) $$ [H1]; (· iexact H1); iintro H1
    iapply (wp_load_owns c a2 _ zero2 E fullShare _) $$ [H2]; (· iexact H2); iintro H2
    iapply (wp_load_owns c a3 _ zero2 E fullShare _) $$ [H3]; (· iexact H3); iintro H3
    iapply (wp_load_owns c a4 _ zero2 E fullShare _) $$ [H4]; (· iexact H4); iintro H4
    iapply (wp_load_owns c a6 _ zero2 E fullShare _) $$ [H6]; (· iexact H6); iintro H6
    iapply (wp_store_owns c a6 _ zero2 E _ _) $$ [H6]; (· iexact H6); iintro H6
  -- the last step's result
  on_goal 1 =>
    iapply (wp_load_owns c a6 _ zero2 E fullShare _) $$ [H6]; (· iexact H6); iintro H6
    iapply (wp_load_owns c a5 _ zero1 E fullShare _) $$ [H5]; (· iexact H5); iintro H5
    iapply (wp_store_owns c a5 _ zero1 E _ _) $$ [H5]; (· iexact H5); iintro H5
  on_goal 3 =>
    iapply (wp_load_owns c a6 _ zero2 E fullShare _) $$ [H6]; (· iexact H6); iintro H6
    iapply (wp_load_owns c a5 _ zero1 E fullShare _) $$ [H5]; (· iexact H5); iintro H5
    iapply (wp_store_owns c a5 _ zero1 E _ _) $$ [H5]; (· iexact H5); iintro H5
  all_goals
    sl_step
    iapply Hk
    isplitl [H1]; · iexact H1
    isplitl [H2]; · iexact H2
    isplitl [H3]; · iexact H3
    isplitl [H4]; · iexact H4
    isplitl [H5]; · iexact H5
    iexact H6

/-! ## The combining kernel's body -/

/-- What the combining kernel stores: the columns' sums less the gathered logits' terms, scaled. -/
def combine (p v : Vec F S1024 .f32) : FVec F S1024 .f32 :=
  mulf (subf (shapeCast S1024 p shapeCasts_S1024_S1024)
      (mulf (log (addf (broadcast S1024 (Scalar.ofBits .f32 0x3F800000#32))
          (exp2 (mulf (shapeCast S1024 v shapeCasts_S1024_S1024) (broadcast S1024 (Named.named κ "nlog2e" 0xBFB8AA3B#32))))))
        (broadcast S1024 (Named.named κ "log2e" 0x3FB8AA3B#32))))
    (broadcast S1024 (Named.named κ "ln2_over_rows" 0x3A317218#32))

/-- The combining kernel's body: both operands stay, the result is their combination. -/
theorem combine_wp (c : Dev nD)
    (a0 : Memref sig .tc .vmem S1024 .f32) (h0 : a0.IsWhole) (a1 : Memref sig .tc .vmem S1024 .f32) (h1 : a1.IsWhole)
    (a2 : Memref sig .tc .vmem S1024 .f32) (h2 : a2.IsWhole)
    (X0 X1 X2 : Vec F S1024 .f32) (E : Set ℕ) (Q : PUnit → sProp 𝕄) :
    iprop(owns (c : Thread nD τ) a0 fullShare X0 ∗ owns (c : Thread nD τ) a1 fullShare X1 ∗ owns (c : Thread nD τ) a2 fullShare X2
        ∗ (iprop(owns (c : Thread nD τ) a0 fullShare X0 ∗ owns (c : Thread nD τ) a1 fullShare X1
          ∗ owns (c : Thread nD τ) a2 fullShare (combine X0 X1)) -∗ Q ⟨⟩))
      ⊢ wp Idealize.ShloMosaic.frame (wpE (defs₀ (F := F)) 𝒱₀ (c : Thread nD τ) none) E
          (cc2__combine_body a0 h0 a1 h1 a2 h2) Q := by
  unfold cc2__combine_body combine
  simp only [Prog.lift, Prog.bind_op, Prog.bind_ret, pure_bind, bind_pure]
  iintro ⟨H0, H1, H2, Hk⟩
  iapply (wp_load_owns c a1 _ zero1 E fullShare _) $$ [H1]; (· iexact H1); iintro H1
  iapply (wp_load_owns c a0 _ zero1 E fullShare _) $$ [H0]; (· iexact H0); iintro H0
  iapply (wp_load_owns c a2 _ zero1 E fullShare _) $$ [H2]; (· iexact H2); iintro H2
  iapply (wp_store_owns c a2 _ zero1 E _ _) $$ [H2]; (· iexact H2); iintro H2
  sl_step
  iapply Hk
  isplitl [H0]; · iexact H0
  isplitl [H1]; · iexact H1
  iexact H2

end Cert.KernelIdeal.Tc
-- ==== Proof.Regions.lean ====
/- The two TensorCore calls as regions of the main program: the blocks each grid step reads, the
   accumulator from step to step, and what the region leaves in the arrays. -/
module

public import proofs.«01_k».proof.Proof.TcRun
public import proofs.«01_k».proof.Proof.Gen.KernelIdeal.Points
public import Idealize.ShloMosaic.Lib.Pipeline.RegionsLoop
public import Idealize.ShloMosaic.Lib.Pipeline.FrameBody
public import Idealize.ShloMosaic.Lib.Pipeline.Value

@[expose] public section

set_option maxRecDepth 16384

noncomputable section

namespace Cert.KernelIdeal.Tc

open Cert.KernelIdeal Cert.KernelIdeal.Gen Cert.KernelIdeal.Sc Cert.KernelIdeal.TcBody
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Tactic

variable {F : FTy → Type} [FloatOps F] [Named F]

local notation "𝕄" => MT nD τ sig (HIx 1) (Elt F) ℕ UU ℕ

/-- Contents of every buffer the main program holds on a device. -/
abbrev Vals : Type := (c : Dev nD) → (b : Ref sig .tc) → Buf (Elt F) ((c : Thread nD τ).loc b)

variable (V : Vals (F := F)) (B : ℕ)

/-! ## The reduction's values -/

/-- Stream `0`'s block of 1000 rows at grid step `t`; -/
def xb0 (c : Dev nD) (t : Fin cfg1.N) : Vec F S1000x1024 .f32 := (win1_0.blk t).view.read (Elt F) (V c main_v0)
/-- stream `1`'s; -/
def xb1 (c : Dev nD) (t : Fin cfg1.N) : Vec F S1000x1024 .f32 := (win1_1.blk t).view.read (Elt F) (V c main_v0)
/-- stream `2`'s; -/
def xb2 (c : Dev nD) (t : Fin cfg1.N) : Vec F S1000x1024 .f32 := (win1_2.blk t).view.read (Elt F) (V c main_v0)
/-- stream `3`'s. -/
def xb3 (c : Dev nD) (t : Fin cfg1.N) : Vec F S1000x1024 .f32 := (win1_3.blk t).view.read (Elt F) (V c main_v0)

/-- The accumulator after `n` grid steps. -/
def acc (c : Dev nD) : ℕ → Vec F S8x1024 .f32
  | 0 => k1_pay3
  | n + 1 => if h : n < cfg1.N then
      accStep (grid1.coords ⟨n, h⟩) (xb0 V c ⟨n, h⟩) (xb1 V c ⟨n, h⟩) (xb2 V c ⟨n, h⟩) (xb3 V c ⟨n, h⟩) (acc c n)
    else acc c n

/-- What the accumulator holds after step `t`. -/
theorem acc_succ (c : Dev nD) (t : Fin cfg1.N) :
    acc V c (t.val + 1) = accStep (grid1.coords t) (xb0 V c t) (xb1 V c t) (xb2 V c t) (xb3 V c t) (acc V c t.val) := by
  obtain ⟨n, h⟩ := t
  show (if h : n < cfg1.N then _ else _) = _
  rw [dif_pos h]

/-- The body clears the accumulator exactly at the first step; -/
theorem first_iff : ∀ t : Fin grid1.N, firstStep (grid1.coords t) = 1#1 ↔ t.val = 0 := by decide +kernel

/-- it writes the result exactly at the last. -/
theorem last_iff : ∀ t : Fin grid1.N, k1_cond2 (grid1.coords t) = 1#1 ↔ t.val = 24 := by decide +kernel

/-- The (semaphore, index) pairs a core may have waited on before the region: those of a low level. -/
def below (c : Dev nD) : Set (SemLoc sig × HIx 1) := {p | (K (F := F)).lev ((c : Thread nD τ), p.1) p.2 ≤ B}

/-- The reduction's state between grid steps: the accumulator, and the other kernel's staging. -/
def Φ1 (c : Dev nD) (t : Fin (cfg1.N + 1)) : sProp 𝕄 :=
  iprop((∃ f : Vec F S8x1024 .f32, ⌜t.val ≠ 0 → f = acc V c t.val⌝ ∗ owns (c : Thread nD τ) (Memref.whole cc1_scratch0) fullShare f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f))

/-- The reduction region's data. -/
def dat1 (c : Dev nD) : Dat τ (Elt F) (HIx 1) ℕ UU ℕ cfg1 c where
  A w := V c (Pipeline.arrRef spec1 w)
  after w t := match w with
    | ⟨0, _⟩ => xb0 V c t
    | ⟨1, _⟩ => xb1 V c t
    | ⟨2, _⟩ => xb2 V c t
    | ⟨3, _⟩ => xb3 V c t
    | ⟨4, _⟩ => k1_pay2 (acc V c (t.val + 1))
  Φ t := Φ1 V c t
  q w := Pipeline.shareOf spec1 w
  owed _ := 0
  recorded _ := below (F := F) B c

/-- The combination region's data. -/
def dat2 (c : Dev nD) : Dat τ (Elt F) (HIx 1) ℕ UU ℕ cfg2 c where
  A w := V c (Pipeline.arrRef spec2 w)
  after w _ := match w with
    | ⟨0, _⟩ => V c main_v2
    | ⟨1, _⟩ => V c main_v1
    | ⟨2, _⟩ => combine (V c main_v2) (V c main_v1)
  Φ _ := Pipeline.scopedRest (Ix := HIx 1) (Name := ℕ) (U := UU) (Lvl := ℕ) (Val := Elt F) spec2 c
  q _ := fullShare
  owed _ := 0
  recorded _ := below (F := F) B c

/-- The pipelines have no tables. -/
abbrev adm : (p : Fin 2) → (pcfgs (F := F) p).Adm := fun p => (cfgs p).toPCfg_adm

/-- Both regions' data. -/
def pdats : (p : Fin 2) → (c : Dev nD) → Dat τ (Elt F) (HIx 1) ℕ UU ℕ (Pipeline.pin (pcfgs (F := F)) adm p) c
  | ⟨0, _⟩ => fun c => dat1 V B c
  | ⟨1, _⟩ => fun c => dat2 V B c

/-! ## The bodies' obligations -/

/-- Each input window's buffer holds its block when the reduction's body runs. -/
theorem before1_0 (c : Dev nD) (t : Fin cfg1.N) (d : (cfg1.win 0).block.Idx → Elt F (cfg1.win 0).elt) :
    (dat1 V B c).before 0 t d = xb0 V c t := by
  unfold Dat.before; rw [if_pos (fetch1_0 t)]; unfold Dat.fetched Dat.blockOf xb0; rfl
/-- The same for the second stream, -/
theorem before1_1 (c : Dev nD) (t : Fin cfg1.N) (d : (cfg1.win 1).block.Idx → Elt F (cfg1.win 1).elt) :
    (dat1 V B c).before 1 t d = xb1 V c t := by
  unfold Dat.before; rw [if_pos (fetch1_1 t)]; unfold Dat.fetched Dat.blockOf xb1; rfl
/-- the third, -/
theorem before1_2 (c : Dev nD) (t : Fin cfg1.N) (d : (cfg1.win 2).block.Idx → Elt F (cfg1.win 2).elt) :
    (dat1 V B c).before 2 t d = xb2 V c t := by
  unfold Dat.before; rw [if_pos (fetch1_2 t)]; unfold Dat.fetched Dat.blockOf xb2; rfl
/-- and the fourth. -/
theorem before1_3 (c : Dev nD) (t : Fin cfg1.N) (d : (cfg1.win 3).block.Idx → Elt F (cfg1.win 3).elt) :
    (dat1 V B c).before 3 t d = xb3 V c t := by
  unfold Dat.before; rw [if_pos (fetch1_3 t)]; unfold Dat.fetched Dat.blockOf xb3; rfl

/-- The accumulator's step at `t`, from what it holds by the state before. -/
theorem accStep_of (c : Dev nD) (t : Fin cfg1.N) (f : Vec F S8x1024 .f32) (hf : t.val ≠ 0 → f = acc V c t.val) :
    accStep (grid1.coords t) (xb0 V c t) (xb1 V c t) (xb2 V c t) (xb3 V c t) f = acc V c (t.val + 1) := by
  rw [acc_succ]
  by_cases h : t.val = 0
  · unfold accStep
    rw [if_pos ((first_iff t).mpr h), if_pos ((first_iff t).mpr h)]
  · rw [hf h]

/-- The reduction's body at a grid step, over what its buffers hold then. -/
theorem body1_run (c : Dev nD) (t : Fin cfg1.N) (f : Vec F S8x1024 .f32) (hf : t.val ≠ 0 → f = acc V c t.val)
    (d0 : (cfg1.win 0).block.Idx → Elt F (cfg1.win 0).elt) (d1 : (cfg1.win 1).block.Idx → Elt F (cfg1.win 1).elt)
    (d2 : (cfg1.win 2).block.Idx → Elt F (cfg1.win 2).elt) (d3 : (cfg1.win 3).block.Idx → Elt F (cfg1.win 3).elt)
    (X5 : Vec F S1024 .f32) (Q : PUnit → sProp 𝕄) :
    iprop(owns (c : Thread nD τ) (st1_0 t) fullShare ((dat1 V B c).before 0 t d0)
        ∗ owns (c : Thread nD τ) (st1_1 t) fullShare ((dat1 V B c).before 1 t d1)
        ∗ owns (c : Thread nD τ) (st1_2 t) fullShare ((dat1 V B c).before 2 t d2)
        ∗ owns (c : Thread nD τ) (st1_3 t) fullShare ((dat1 V B c).before 3 t d3)
        ∗ owns (c : Thread nD τ) (st1_4 t) fullShare X5
        ∗ owns (c : Thread nD τ) (Memref.whole cc1_scratch0) fullShare f
        ∗ (iprop(owns (c : Thread nD τ) (st1_0 t) fullShare (xb0 V c t) ∗ owns (c : Thread nD τ) (st1_1 t) fullShare (xb1 V c t)
          ∗ owns (c : Thread nD τ) (st1_2 t) fullShare (xb2 V c t) ∗ owns (c : Thread nD τ) (st1_3 t) fullShare (xb3 V c t)
          ∗ owns (c : Thread nD τ) (st1_4 t) fullShare (if k1_cond2 (grid1.coords t) = 1#1 then k1_pay2 (acc V c (t.val + 1)) else X5)
          ∗ owns (c : Thread nD τ) (Memref.whole cc1_scratch0) fullShare (acc V c (t.val + 1))) -∗ Q ⟨⟩))
      ⊢ wp Idealize.ShloMosaic.frame (wpE (defs₀ (F := F)) 𝒱₀ (c : Thread nD τ) none) Set.univ (bodyAt1 t) Q := by
  rw [before1_0, before1_1, before1_2, before1_3, ← accStep_of V c t f hf]
  exact tcBody_wp c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3))
      (st1_4 t) (hstage1_4 ((cfg1.slots t 4).cast nbuf1_4)) (Memref.whole cc1_scratch0) (Memref.isWhole_whole _)
      (xb0 V c t) (xb1 V c t) (xb2 V c t) (xb3 V c t) X5 f Set.univ Q

/-- The result's window is idle at every step but the last. -/
theorem idle1_iff (t : Fin cfg1.N) : cfg1.idle 4 (cfg1.grid.coords t) = true ↔ t.val ≠ 24 := by
  show (!(k1_cond2 (grid1.coords t) == 1#1)) = true ↔ _
  rw [Bool.not_eq_true', beq_eq_false_iff_ne]
  exact not_congr (last_iff t)

/-- The reduction's body obligation. -/
theorem body1 (c : Dev nD) : BodyObligation (dat1 V B c) (defs₀ (F := F)) 𝒱₀ none Set.univ := fun t => by
  rw [bigSep_W1, bigSep_W1]
  rw [show (dat1 V B c).Φ t.castSucc = Φ1 V c t.castSucc from rfl, show (dat1 V B c).Φ t.succ = Φ1 V c t.succ from rfl,
    show (dat1 V B c).owesAt none t.succ = (dat1 V B c).owesAt none t.castSucc from rfl]
  show _ ⊢ wp _ _ _ (bodyAt1 t) _
  unfold Φ1
  cases hb : cfg1.idle 4 (cfg1.grid.coords t)
  · have hl : t.val = 24 := not_not.mp fun h => by rw [(idle1_iff t).mpr h] at hb; exact absurd hb (by decide)
    iintro ⟨⟨⟨%f, %hf, H6⟩, Hrest⟩, Howes, ⟨%d0, H0⟩, ⟨%d1, H1⟩, ⟨%d2, H2⟩, ⟨%d3, H3⟩, ⟨%d4, H4⟩⟩
    iapply (body1_run V B c t f hf d0 d1 d2 d3 _ _)
    isplitl [H0]; · iexact H0
    isplitl [H1]; · iexact H1
    isplitl [H2]; · iexact H2
    isplitl [H3]; · iexact H3
    isplitl [H4]; · iexact H4
    isplitl [H6]; · iexact H6
    rw [if_pos ((last_iff t).mpr hl)]
    iintro ⟨H0, H1, H2, H3, H4, H6⟩
    isplitl [H6 Hrest]
    · isplitl [H6]
      · iexists _
        isplitr; swap
        · iexact H6
        ipureintro; exact fun _ => rfl
      iexact Hrest
    isplitl [Howes]; · iexact Howes
    isplitl [H0]; · iexact H0
    isplitl [H1]; · iexact H1
    isplitl [H2]; · iexact H2
    isplitl [H3]; · iexact H3
    iexact H4
  · have hl : t.val ≠ 24 := (idle1_iff t).mp hb
    have h25 : t.val < 25 := N_1 ▸ t.isLt
    have hfl : (cfg1.win 4).flush t = false := by
      rw [← Bool.not_eq_true, flush1_4]; omega
    simp only [hfl]
    iintro ⟨⟨⟨%f, %hf, H6⟩, Hrest⟩, Howes, ⟨%d0, H0⟩, ⟨%d1, H1⟩, ⟨%d2, H2⟩, ⟨%d3, H3⟩, ⟨%d4, H4⟩⟩
    iapply (body1_run V B c t f hf d0 d1 d2 d3 _ _)
    isplitl [H0]; · iexact H0
    isplitl [H1]; · iexact H1
    isplitl [H2]; · iexact H2
    isplitl [H3]; · iexact H3
    isplitl [H4]; · iexact H4
    isplitl [H6]; · iexact H6
    rw [if_neg fun h => hl ((last_iff t).mp h)]
    iintro ⟨H0, H1, H2, H3, H4, H6⟩
    isplitl [H6 Hrest]
    · isplitl [H6]
      · iexists _
        isplitr; swap
        · iexact H6
        ipureintro; exact fun _ => rfl
      iexact Hrest
    isplitl [Howes]; · iexact Howes
    isplitl [H0]; · iexact H0
    isplitl [H1]; · iexact H1
    isplitl [H2]; · iexact H2
    isplitl [H3]; · iexact H3
    iexists d4
    iexact H4

/-- The combination's first window is its whole array; -/
theorem read2_0 (f : Vec F S1024 .f32) : (win2_0.blk t2_0).view.read (Elt F) f = f :=
  funext fun x => congrArg f (funext fun a => Fin.ext (by
    show 0 * _ + 1 * (x a : ℕ) = x a
    omega))

/-- so is its second, -/
theorem read2_1 (f : Vec F S1024 .f32) : (win2_1.blk t2_0).view.read (Elt F) f = f :=
  funext fun x => congrArg f (funext fun a => Fin.ext (by
    show 0 * _ + 1 * (x a : ℕ) = x a
    omega))

/-- and its result's. -/
theorem read2_2 (f : Vec F S1024 .f32) : (win2_2.blk t2_0).view.read (Elt F) f = f :=
  funext fun x => congrArg f (funext fun a => Fin.ext (by
    show 0 * _ + 1 * (x a : ℕ) = x a
    omega))

/-- The reduction's result window is its whole array at every step. -/
theorem read1_4 (t : Fin cfg1.N) (f : Vec F S1024 .f32) : (win1_4.blk t).view.read (Elt F) f = f :=
  funext fun x => congrArg f (funext fun a => Fin.ext (by
    match a with
    | 0 =>
      show 0 * _ + 1 * (x 0 : ℕ) = x 0
      omega))

/-- The combination's body obligation. -/
theorem body2 (c : Dev nD) : BodyObligation (dat2 V B c) (defs₀ (F := F)) 𝒱₀ none Set.univ := fun t => by
  obtain rfl := fin_N2 t
  rw [bigSep_W2, bigSep_W2]
  have e0 : ∀ d, (dat2 V B c).before 0 t2_0 d = V c main_v2 := fun d => by
    unfold Dat.before; rw [if_pos (fetch2_0 t2_0)]; exact read2_0 (F := F) (V c main_v2)
  have e1 : ∀ d, (dat2 V B c).before 1 t2_0 d = V c main_v1 := fun d => by
    unfold Dat.before; rw [if_pos (fetch2_1 t2_0)]; exact read2_1 (F := F) (V c main_v1)
  rw [show (dat2 V B c).Φ t2_0.succ = (dat2 V B c).Φ t2_0.castSucc from rfl,
    show (dat2 V B c).owesAt none t2_0.succ = (dat2 V B c).owesAt none t2_0.castSucc from rfl]
  show _ ⊢ wp _ _ _ (bodyAt2 t2_0) _
  iintro ⟨HΦ, Howes, ⟨%d0, H0⟩, ⟨%d1, H1⟩, ⟨%d2, H2⟩⟩
  ihave H0 := (Entails.of_eq (congrArg (owns (c : Thread nD τ) (st2_0 t2_0) fullShare) (e0 d0))) $$ H0
  ihave H1 := (Entails.of_eq (congrArg (owns (c : Thread nD τ) (st2_1 t2_0) fullShare) (e1 d1))) $$ H1
  iapply (combine_wp c (st2_0 t2_0) (hstage2_0 0) (st2_1 t2_0) (hstage2_1 0) (st2_2 t2_0) (hstage2_2 0)
    (V c main_v2) (V c main_v1) _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## What the regions leave -/

/-- The columns' sums: the accumulator after the last step, summed over its eight rows. -/
def sums (c : Dev nD) : Vec F S1024 .f32 := k1_pay2 (acc V c 25)

/-- The reduction's result array after the region. -/
theorem arr1_out (c : Dev nD) : (dat1 V B c).arrAt 4 cfg1.N = sums V c := by
  refine (dat1 V B c).arrAt_eq_of_cover 4 (sums V c) (fun t ht => ?_) (fun i => ?_)
  · have h24 : t.val = 24 := by
      have h := (flush1_4 t).mp ht
      have h25 : t.val < 25 := N_1 ▸ t.isLt
      omega
    refine Eq.trans ?_ (read1_4 t (sums V c)).symm
    show k1_pay2 (acc V c (t.val + 1)) = _
    rw [h24]; rfl
  · have h : (24 : ℕ) < cfg1.N := by rw [show cfg1.N = 25 from N_1]; decide
    refine ⟨⟨24, h⟩, (flush1_4 _).mpr rfl, ?_⟩
    have he : (win1_4.blk ⟨24, h⟩).view.emb i = i := funext fun a => Fin.ext (by
      match a with
      | 0 =>
        show 0 * _ + 1 * (i 0 : ℕ) = i 0
        omega)
    exact he ▸ View.emb_mem_set _ i

/-- The combination's result array after the region. -/
theorem arr2_out (c : Dev nD) : (dat2 V B c).arrAt 2 cfg2.N = combine (V c main_v2) (V c main_v1) := by
  refine (dat2 V B c).arrAt_eq_of_cover 2 (combine (V c main_v2) (V c main_v1)) (fun t ht => ?_) (fun i => ?_)
  · obtain rfl := fin_N2 t
    exact (read2_2 (combine (V c main_v2) (V c main_v1))).symm
  · refine ⟨t2_0, flush2_2 _, ?_⟩
    have he : (win2_2.blk t2_0).view.emb i = i := funext fun a => Fin.ext (by
      show 0 * _ + 1 * (i a : ℕ) = i a
      omega)
    exact he ▸ View.emb_mem_set _ i

/-- The core owing nothing, its waits so far all at low levels. -/
def owesB (c : Dev nD) : sProp 𝕄 :=
  iprop(∃ W, ⌜∀ p ∈ W, (K (F := F)).lev ((c : Thread nD τ), p.1) p.2 ≤ B⌝ ∗ owes (c : Thread nD τ) (0 : CellTallies nD τ sig (HIx 1)) W)

/-- What a region's loop holds of the core's debts at its start comes from low waits, -/
theorem owes_in {cfg : Pipeline.Cfg sig Λ₀} (c : Dev nD) (d : Dat τ (Elt F) (HIx 1) ℕ UU ℕ cfg c) (n : Fin (cfg.N + 1)) (h0 : d.owed n = 0)
    (hr : d.recorded n = below (F := F) B c) : owesB (F := F) B c ⊢ d.owesAt none n := by
  unfold owesB Dat.owesAt Pipeline.owesWithin
  iintro ⟨%W, %hW, H⟩
  iexists W
  isplitr
  · ipureintro
    intro p hp
    refine Or.inl ?_
    rw [hr]
    exact hW p hp
  · rw [h0]; iexact H

/-- and at its end gives low waits: the loop's own waits have level zero. -/
theorem owes_out {cfg : Pipeline.Cfg sig Λ₀} (c : Dev nD) (d : Dat τ (Elt F) (HIx 1) ℕ UU ℕ cfg c) (n : Fin (cfg.N + 1)) (h0 : d.owed n = 0)
    (hr : d.recorded n = below (F := F) B c) : d.owesAt none n ⊢ owesB (F := F) B c := by
  unfold owesB Dat.owesAt Pipeline.owesWithin
  rw [h0]
  iintro ⟨%W, %hW, H⟩
  iexists W
  isplitr
  · ipureintro
    intro p hp
    rcases hW hp with h | ⟨w, s, rfl⟩
    · rw [hr] at h; exact h
    · exact Nat.zero_le _
  · iexact H

/-! ## The regions over the thread state -/

variable (L : GSem nD τ sig → Finset (HIx 1)) (lv : GSem nD τ sig → HIx 1 → ℕ) (V' : Vals (F := F))

set_option backward.isDefEq.respectTransparency.types false in
/-- The reduction's region: entered with every unscoped buffer at `V`, left with them at `V'`, which
    has the columns' sums in the result and is `V` elsewhere. -/
def reg1 (hout : ∀ c, V' c main_v2 = sums V c) (hne : ∀ c (b : Ref sig .tc), b ≠ main_v2 → V' c b = V c b) :
    Pipeline.RegionSeg (pcfgs (F := F)) adm (pdats V B) none defs₀ 𝒱₀ L lv 0 where
  win := winFacts₀1
  block_pos := block_pos1
  stage_whole := stage_whole1
  K := PEmpty
  osem k := k.elim
  ho := Pipeline.OwnSemFacts.none _
  hbody c := (body1 V B c).loose
  hwaits := Pipeline.hwaits_of_owed_zero _ _ _ _ L lv 0 fun _ _ => rfl
  pre c := iprop(unscopedBufs c (V c) ∗ owesB (F := F) B c)
  post c := iprop(unscopedBufs c (V' c) ∗ owesB (F := F) B c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs_shared (p := 0) (pcfgs (F := F)) adm (pdats V B) winFacts₀1 sharedIn1 arr_whole1 c
      (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in B c (dat1 V B c) 0 rfl rfl); iexact HO
    isplitr; · iempintro
    iexact Hrest
  hin c := by
    rw [show (pdats V B 0 c).Φ 0 = Φ1 V c 0 from rfl]
    unfold Φ1
    iintro ⟨-, -, Hr⟩
    ihave Hr := (Entails.of_eq (scopedRest1_eq c)) $$ Hr
    icases Hr with ⟨⟨%f, H⟩, Hr⟩
    isplitl [H]
    · iexists f
      isplitr
      · ipureintro; exact fun h => absurd rfl h
      iapply (Entails.of_eq (owns_whole (c : Thread nD τ) cc1_scratch0 fullShare f).symm); iexact H
    iexact Hr
  hout c := by
    rw [Pipeline.ownSems0_none, show (pdats V B 0 c).Φ (Fin.last _) = Φ1 V c (Fin.last _) from rfl]
    unfold Φ1
    iintro ⟨⟨%f, -, H⟩, Hr⟩
    isplitr; · iempintro
    isplitr; · iempintro
    iapply (Entails.of_eq (scopedRest1_eq c).symm)
    isplitl [H]
    · iexists f
      iapply (Entails.of_eq (owns_whole (c : Thread nD τ) cc1_scratch0 fullShare f)); iexact H
    iexact Hr
  hexit c := by
    have hjoin := Pipeline.unscopedBufs_of_arrays_shared (p := 0) (pcfgs (F := F)) adm (Ix := HIx 1) (Name := ℕ) (U := UU) (Lvl := ℕ) winFacts₀1 sharedIn1 arr_whole1 c
      (pdats V B) (fun _ _ => rfl) (V c) (V' c) ((pdats V B 0 c).arrAt · cfg1.N)
      (fun w => by
        match w with
        | 0 => exact ((dat1 V B c).arrAt_in 0 rfl _).trans (hne c main_v0 (by decide)).symm
        | 1 => exact ((dat1 V B c).arrAt_in 1 rfl _).trans (hne c main_v0 (by decide)).symm
        | 2 => exact ((dat1 V B c).arrAt_in 2 rfl _).trans (hne c main_v0 (by decide)).symm
        | 3 => exact ((dat1 V B c).arrAt_in 3 rfl _).trans (hne c main_v0 (by decide)).symm
        | 4 => exact (arr1_out V B c).trans (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    iapply (owes_out B c (dat1 V B c) (Fin.last _) rfl rfl); iexact HO

set_option backward.isDefEq.respectTransparency.types false in
/-- The combination's region: entered with every unscoped buffer at `V`, left with them at `V'`, which
    has the combined values in the result and is `V` elsewhere. -/
def reg2 (hout : ∀ c, V' c main_v3 = combine (V c main_v2) (V c main_v1)) (hne : ∀ c (b : Ref sig .tc), b ≠ main_v3 → V' c b = V c b) :
    Pipeline.RegionSeg (pcfgs (F := F)) adm (pdats V B) none defs₀ 𝒱₀ L lv 1 where
  win := launch2.win.to₀
  block_pos := launch2.block_pos
  stage_whole := launch2.stage_whole
  K := PEmpty
  osem k := k.elim
  ho := Pipeline.OwnSemFacts.none _
  hbody c := (body2 V B c).loose
  hwaits := Pipeline.hwaits_of_owed_zero _ _ _ _ L lv 1 fun _ _ => rfl
  pre c := iprop(unscopedBufs c (V c) ∗ owesB (F := F) B c)
  post c := iprop(unscopedBufs c (V' c) ∗ owesB (F := F) B c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V B) launch2.win launch2.arr_whole c
      ((pdats V B 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes_in B c (dat2 V B c) 0 rfl rfl); iexact HO
    isplitr; · iempintro
    iexact Hrest
  hin c := by
    rw [show (pdats V B 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V B 1 c).Φ (Fin.last _)
      = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V B) ((pdats V B 1 c).share_full fun _ => rfl) (V c) (V' c) ((pdats V B 1 c).arrAt · cfg2.N)
      (fun w => by
        match w with
        | 0 => exact ((dat2 V B c).arrAt_in 0 rfl _).trans (hne c main_v2 (by decide)).symm
        | 1 => exact ((dat2 V B c).arrAt_in 1 rfl _).trans (hne c main_v1 (by decide)).symm
        | 2 => exact (arr2_out V B c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    iapply (owes_out B c (dat2 V B c) (Fin.last _) rfl rfl); iexact HO

end Cert.KernelIdeal.Tc
-- ==== Proof.Run.lean ====
/- The whole program's run: the transposition, the SparseCore call, the two TensorCore calls, in
   order, and what the memory holds at the end. -/
module

public import proofs.«01_k».proof.Proof.Tile
public import proofs.«01_k».proof.Proof.Regions

@[expose] public section

set_option maxRecDepth 16384

noncomputable section

namespace Cert.KernelIdeal.Whole

open Cert.KernelIdeal Cert.KernelIdeal.Gen Cert.KernelIdeal.Sc Cert.KernelIdeal.Tc
open Idealize.ShloMosaic
open Idealize.ShloMosaic.TcCoe
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch's ghost state -/

/-- The launch element: the handshakes' rounds, the pipelines' rounds, no counters. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What each TensorCore gets of it: the two pipelines' cells and tokens. -/
def G (d : Dev nD) : sProp 𝕄 :=
  iprop((bigSep Finset.univ fun p => Pipeline.cellsGhost (Pipeline.pin (pcfgs (F := F)) adm) EP p d)
    ∗ (bigSep Finset.univ fun p => Pipeline.toksInit (Pipeline.pin (pcfgs (F := F)) adm) EP p d))

/-- Nothing, in any number of parts, is nothing. -/
theorem bigSep_empty_parts {I : Type} (s : Finset I) : (bigSep s fun _ => iprop(emp)) = (iprop(emp) : sProp 𝕄) := bigSep_emp_const s

/-- The launch element dealt: the handshakes', each TensorCore's, nothing to the tasks. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HP⟩
  ihave H := (own_pair_emb _ _ _) $$ HP
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · unfold G
    rw [bigSep_sep']
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_empty_parts]
  iempintro

/-! ## The main program's buffers -/

/-- The main program's buffers held: the two arguments and the four values. -/
theorem unscopedBufs_eq (d : Dev nD) (W : (b : Ref sig .tc) → Buf (Elt F) ((d.tc : Thread nD τ).loc b)) :
    (unscopedBufs d W : sProp 𝕄)
      = iprop((pLoc d ↦{fullShare} W main_arg0) ∗ (tLoc d ↦{fullShare} W main_arg1) ∗ (xLoc d ↦{fullShare} W main_v0)
          ∗ (vLoc d ↦{fullShare} W main_v1) ∗ (sLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The buffers before the TensorCore calls: the launch's, the transposed logits, the picked logits. -/
def V₁ : Vals (F := F) := fun d =>
  Function.update (Function.update (fun b => m ((d : Thread nD τ).loc b)) main_v0 (predT m d)) main_v1 (picked m d)

/-- The buffers after the reduction: its sums in place. -/
def V₂ : Vals (F := F) := fun d => Function.update (V₁ m d) main_v2 (sums (V₁ m) d)

/-- What the program returns: the combination of the sums and the picked logits. -/
def result (d : Dev nD) : Buf (Elt F) (rLoc d) := combine (sums (V₁ m) d) (picked m d)

/-- The buffers at the end: the result in place. -/
def V₃ : Vals (F := F) := fun d => Function.update (V₂ m d) main_v3 (result m d)

/-- After the gather the second operand of the calls holds the transposed logits, -/
theorem V₁_v0 (d : Dev nD) : V₁ m d main_v0 = predT m d := by
  unfold V₁; rw [Function.update_of_ne (by decide), Function.update_self]
/-- the gathered array the picked ones, -/
theorem V₁_v1 (d : Dev nD) : V₁ m d main_v1 = picked m d := Function.update_self _ _ _
/-- and every other buffer what it held at the launch. -/
theorem V₁_ne (d : Dev nD) (b : Ref sig .tc) (h0 : b ≠ main_v0) (h1 : b ≠ main_v1) : V₁ m d b = m ((d : Thread nD τ).loc b) := by
  unfold V₁; rw [Function.update_of_ne h1, Function.update_of_ne h0]
/-- After the reduction its result holds the sums, -/
theorem V₂_v2 (d : Dev nD) : V₂ m d main_v2 = sums (V₁ m) d := Function.update_self _ _ _
/-- and every other buffer what it held before. -/
theorem V₂_ne (d : Dev nD) (b : Ref sig .tc) (h : b ≠ main_v2) : V₂ m d b = V₁ m d b := Function.update_of_ne h _ _
/-- After the combination every buffer but the result holds what it held before, -/
theorem V₃_ne (d : Dev nD) (b : Ref sig .tc) (h : b ≠ main_v3) : V₃ m d b = V₂ m d b := Function.update_of_ne h _ _
/-- and the result holds the combination of the sums and the picked logits. -/
theorem V₃_v3 (d : Dev nD) : V₃ m d main_v3 = combine (V₂ m d main_v2) (V₂ m d main_v1) := by
  rw [V₂_v2, V₂_ne m d main_v1 (by decide), V₁_v1]; exact Function.update_self _ _ _

/-! ## The main program on a TensorCore -/

/-- The logits as a buffer of the device; -/
abbrev p' : DevRef τ sig := Proc.devRef .tc (main_arg0 : Ref sig .tc)
/-- the transposed logits. -/
abbrev x' : DevRef τ sig := Proc.devRef .tc (main_v0 : Ref sig .tc)

/-- The main program's first operation, the transposition. -/
abbrev opT : HloOp τ sig (Elt F) :=
  StableHlo.unary main_arg0 main_v0 ((transpose S100000x1024 [1, 0] · transposes_S1024x100000_S100000x1024_1_0) : (⟨S1024x100000, .f32⟩ : BufTy).Contents (Elt F) → (⟨S100000x1024, .f32⟩ : BufTy).Contents (Elt F))

/-- Its buffers: the logits and their transposition. -/
theorem opBufs_eq (d : Dev nD) (W : Valuation τ sig (Elt F)) :
    (bigSep (opT (F := F)).bufs (fun b => ((d, b) : Loc nD τ sig) ↦{fullShare} W b) : sProp 𝕄)
      = iprop((pLoc d ↦{fullShare} W p') ∗ xLoc d ↦{fullShare} W x') := by
  show bigSep ({p', x'} : Finset (DevRef τ sig)) (fun b => ((d, b) : Loc nD τ sig) ↦{fullShare} W b) = _
  rw [SparseCore.bigSep_insert' (by decide), bigSep_singleton]

/-- The SparseCore call's operands are the two cores' work, -/
theorem st0_eq (d : Dev nD) : (bigSep Finset.univ fun c : Fin ((K (F := F)).nCore 0) => (P m).st 0 d c)
    = iprop(tPts m d ∗ xPts m d ∗ vPts d (m (vLoc d))) := (pts_work m d (m (vLoc d))).symm
/-- and its results, the picked logits in place. -/
theorem dn0_eq (d : Dev nD) : (bigSep Finset.univ fun c : Fin ((K (F := F)).nCore 0) => (P m).dn 0 d c)
    = iprop(tPts m d ∗ xPts m d ∗ vPts d (picked m d)) := (pts_work m d (picked m d)).symm

/-- One TensorCore call of the main program, entered at its region's precondition. -/
theorem wp_region [∀ e, Nonempty (Elt F e)] (V : Vals (F := F)) (B : ℕ) (L : GSem nD τ sig → Finset (HIx 1)) (lv : GSem nD τ sig → HIx 1 → ℕ) (p : Fin 2)
    (R : Pipeline.RegionSeg (pcfgs (F := F)) adm (pdats V B) none defs₀ 𝒱₀ L lv p) (d : Dev nD) (pre post : sProp 𝕄)
    (hpre : pre = R.pre d) (hpost : R.post d = post) (Φ : PUnit → sProp 𝕄) :
    (iprop(boundary (T d) ∗ pre ∗ levAts L lv
        ∗ Pipeline.cellsGhost (Pipeline.pin (pcfgs (F := F)) adm) EP p d ∗ Pipeline.toksInit (Pipeline.pin (pcfgs (F := F)) adm) EP p d
        ∗ (iprop(boundary (T d) ∗ post) -∗ Φ ⟨⟩)) : sProp 𝕄)
      ⊢ wp Idealize.ShloMosaic.frame (wpE ((K (F := F)).defs (D (F := F))) 𝒱 (T d) none) Set.univ
          (Prog.lift (.customCall (SparseCore.inner (Pipeline.entry p)) ())) Φ := by
  subst hpre hpost
  have h := (K (F := F)).wp_liftProg (D (F := F)) 𝒱 (T d) Set.univ none (.op (.customCall (Pipeline.entry p) ()) .ret) Φ
  iintro ⟨Hb, Hp, Hl, Hc, Ht, Hk⟩
  iapply h
  iapply (Pipeline.RegionSeg.wp (pcfgs (F := F)) adm (pdats V B) none cellOf_inj EP defs₀ 𝒱₀ L lv R d none (fun _ h => nomatch h) .ret Φ)
  isplitl [Hk]
  · iintro H
    rw [wp_ret]
    imodintro
    iapply Hk; iexact H
  isplitl [Hb]; · iexact Hb
  isplitl [Hp]; · iexact Hp
  isplitl [Hl]; · iexact Hl
  isplitl [Hc] <;> iassumption

/-- The bound on the levels of a TensorCore's waits after the SparseCore call. -/
abbrev B₁ : ℕ := 8 * 1

/-- What a TensorCore keeps of the handshakes after the SparseCore call, its debts aside. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the SparseCore call the TensorCore owes nothing. -/
theorem tcSt_one (d : Dev nD) : ((K (F := F)).tcSt EH d 1 : sProp 𝕄) = iprop(owesB (F := F) B₁ d ∗ tcRest d) := by
  unfold SparseCore.Cfg.tcSt owesB tcRest
  rw [(K (F := F)).Otc_end d (n := 1) (by decide)]
  rfl

/-- What the main program leaves: every buffer at its final contents. -/
abbrev FIN (d : Dev nD) : sProp 𝕄 := unscopedBufs d (V₃ m d)

/-- The two pipelines' launch state, one by one. -/
theorem G_eq (d : Dev nD) : (G (F := F) d : sProp 𝕄)
    = iprop((Pipeline.cellsGhost (Pipeline.pin (pcfgs (F := F)) adm) EP 0 d ∗ Pipeline.cellsGhost (Pipeline.pin (pcfgs (F := F)) adm) EP 1 d)
      ∗ (Pipeline.toksInit (Pipeline.pin (pcfgs (F := F)) adm) EP 0 d ∗ Pipeline.toksInit (Pipeline.pin (pcfgs (F := F)) adm) EP 1 d)) := by
  unfold G
  rw [show (Finset.univ : Finset (Fin 2)) = {0, 1} by decide, SparseCore.bigSep_insert' (by decide), bigSep_singleton,
    SparseCore.bigSep_insert' (by decide), bigSep_singleton]

/-- The main program on a device's TensorCore: the transposition, the SparseCore call from the
    targets, the transposed logits and the picked logits' buffer, then the two TensorCore calls from
    all the buffers. -/
theorem hmain [∀ e, Nonempty (Elt F e)] (κ : GSem nD τ sig → ℕ) (d : Dev nD) :
    (iprop((K (F := F)).ctx EH (P m) κ ∗ (K (F := F)).tcSt EH d 0 ∗ (K (F := F)).tcRes m ρ d ∗ G (F := F) d) : sProp 𝕄)
      ⊢ wp Idealize.ShloMosaic.frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq, G_eq]
  simp only [main, wp_bind, wp_pure]
  iintro ⟨#Hctx, Hst, ⟨Hb, ⟨Hp, Ht, Hx, Hv, Hs, Hr⟩, Hts, -⟩, ⟨Hc0, Hc1⟩, Hk0, Hk1⟩
  -- the transposition
  iapply (wp_hlo 𝒱 (T d) none Set.univ (op := opT) (q := fun _ => fullShare) (F := fun b => m (d, b)) (fun _ _ => rfl)) $$ [Hb Hp Hx]
  · isplitl [Hb]; · iexact Hb
    rw [opBufs_eq]
    isplitl [Hp]; · iexact Hp
    iexact Hx
  rw [opBufs_eq, (opT (F := F)).result_of_not_mem (fun b => m (d, b)) (b := p') (show p' ∉ ({x'} : Finset (DevRef τ sig)) by decide),
    show (opT (F := F)).result (fun b => m (d, b)) x' = predT m d from StableHlo.unary_result _ _ _ _ _ _]
  iintro ⟨Hb, Hp, Hx⟩
  rw [wp_ret]; imodintro
  -- the SparseCore call
  iapply ((K (F := F)).wp_run (D (F := F)) 𝒱 (EH := EH) (P := P m) κ d 0) $$ [Hst Hp Ht Hx Hv Hs Hr Hb Hts Hc0 Hc1 Hk0 Hk1]
  isplitr; · iexact Hctx
  isplitl [Hst]; · iexact Hst
  isplitl [Ht Hx Hv]
  · rw [st0_eq]
    isplitl [Ht]; · iexact Ht
    isplitl [Hx]; · iexact Hx
    iexact Hv
  iintro ⟨Hst, Hdn⟩
  ihave Hdn' := (Entails.of_eq (dn0_eq m d)) $$ Hdn
  icases Hdn' with ⟨Ht, Hx, Hv⟩
  ihave Hst' := (show ((K (F := F)).tcSt EH d ((0 : Fin 1).val + 1) : sProp 𝕄) ⊢ _ from Entails.of_eq (tcSt_one d)) $$ Hst
  icases Hst' with ⟨HO, Hrest⟩
  ihave #Hl := ((K (F := F)).ctx_levAts κ) $$ Hctx
  have hV : (unscopedBufs d (V₁ m d) : sProp 𝕄) = iprop((pLoc d ↦{fullShare} m (pLoc d)) ∗ tPts m d ∗ xPts m d
      ∗ vPts d (picked m d) ∗ (sLoc d ↦{fullShare} m (sLoc d)) ∗ rLoc d ↦{fullShare} m (rLoc d)) := by
    rw [unscopedBufs_eq, V₁_v0, V₁_v1, V₁_ne m d main_arg0 (by decide) (by decide), V₁_ne m d main_arg1 (by decide) (by decide),
      V₁_ne m d main_v2 (by decide) (by decide), V₁_ne m d main_v3 (by decide) (by decide)]
  ihave Hbufs := (Entails.of_eq hV.symm) $$ [Hp Ht Hx Hv Hs Hr]
  · isplitl [Hp]; · iexact Hp
    isplitl [Ht]; · iexact Ht
    isplitl [Hx]; · iexact Hx
    isplitl [Hv]; · iexact Hv
    isplitl [Hs]; · iexact Hs
    iexact Hr
  -- the reduction
  iapply (wp_region (V₁ m) B₁ (K (F := F)).L (K (F := F)).lev 0 (reg1 (V₁ m) B₁ (K (F := F)).L (K (F := F)).lev (V₂ m) (V₂_v2 m) (V₂_ne m)) d
    iprop(unscopedBufs d (V₁ m d) ∗ owesB (F := F) B₁ d) iprop(unscopedBufs d (V₂ m d) ∗ owesB (F := F) B₁ d) rfl rfl _)
  isplitl [Hb]; · iexact Hb
  isplitl [Hbufs HO]
  · isplitl [Hbufs]; · iexact Hbufs
    iexact HO
  isplitr; · iexact Hl
  isplitl [Hc0]; · iexact Hc0
  isplitl [Hk0]; · iexact Hk0
  iintro ⟨Hb, Hbufs, HO⟩
  -- the combination
  iapply (wp_region (V₂ m) B₁ (K (F := F)).L (K (F := F)).lev 1 (reg2 (V₂ m) B₁ (K (F := F)).L (K (F := F)).lev (V₃ m) (V₃_v3 m) (V₃_ne m)) d
    iprop(unscopedBufs d (V₂ m d) ∗ owesB (F := F) B₁ d) iprop(unscopedBufs d (V₃ m d) ∗ owesB (F := F) B₁ d) rfl rfl _)
  isplitl [Hb]; · iexact Hb
  isplitl [Hbufs HO]
  · isplitl [Hbufs]; · iexact Hbufs
    iexact HO
  isplitr; · iexact Hl
  isplitl [Hc1]; · iexact Hc1
  isplitl [Hk1]; · iexact Hk1
  iintro ⟨Hb, Hbufs, HO⟩
  imodintro
  isplitl [HO Hrest]
  · iapply (Entails.of_eq (tcSt_one d).symm)
    isplitl [HO]; · iexact HO
    iexact Hrest
  isplitl [Hbufs]; · iexact Hbufs
  isplitl [Hb] <;> iassumption

/-! ## The end -/

/-- What the run leaves on device `d`: the result, and the arguments as they were. -/
def fq (d : Dev nD) (s' : Phys nD τ sig (Elt F)) : Prop :=
  s'.mem.mem (rLoc d) = result m d ∧ s'.mem.mem (pLoc d) = m (pLoc d) ∧ s'.mem.mem (tLoc d) = m (tLoc d)

/-- The buffers held at the end say so. -/
theorem hfin (d : Dev nD) (s' : Phys nD τ sig (Elt F)) : iprop(FIN m d ∗ SI s') ⊢ (⌜fq m d s'⌝ : sProp 𝕄) := by
  have hV : (FIN m d : sProp 𝕄) ⊢ iprop((pLoc d ↦{fullShare} m (pLoc d)) ∗ (tLoc d ↦{fullShare} m (tLoc d)) ∗ rLoc d ↦{fullShare} result m d) := by
    rw [FIN, unscopedBufs_eq, show V₃ m d main_v3 = result m d from Function.update_self _ _ _,
      V₃_ne m d main_arg0 (by decide), V₂_ne m d main_arg0 (by decide), V₁_ne m d main_arg0 (by decide) (by decide),
      V₃_ne m d main_arg1 (by decide), V₂_ne m d main_arg1 (by decide), V₁_ne m d main_arg1 (by decide) (by decide)]
    iintro ⟨Hp, Ht, -, -, -, Hr⟩
    isplitl [Hp]; · iexact Hp
    isplitl [Ht]; · iexact Ht
    iexact Hr
  iintro ⟨HF, HSI⟩
  ihave H := hV $$ HF
  icases H with ⟨Hp, Ht, Hr⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := result m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The end of a run: on every device the result, the arguments unchanged, and no semaphore raised. -/
def QC : PUnit × MemSt nD τ sig (Elt F) → Prop := fun r =>
  (∀ d : Dev nD, r.2.mem (rLoc d) = result m d ∧ r.2.mem (pLoc d) = m (pLoc d) ∧ r.2.mem (tLoc d) = m (tLoc d)) ∧ r.2.sem = fun _ => 0

/-- The program runs to that end from every memory whose targets are in range. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.KernelIdeal.Whole

end
-- ==== Proof.Pre.lean ====
/- What the preconditions say: every target names a column, every logit is finite. -/
module

public import proofs.«01_k».proof.Defs
public import proofs.«01_k».proof.Proof.Gen.Pre_in_range
public import proofs.«01_k».proof.Proof.Gen.Pre_finite_in_range
public import Idealize.ShloMosaic.Lib.ReduceAll
public import Idealize.ShloMosaic.Lib.WordCmp

@[expose] public section

noncomputable section

namespace Cert.Pre

open Idealize.ShloMosaic

variable {F : FTy → Type} [FloatOps F]

/-- A word that is non-negative and below 100000 as a signed number is below 100000. -/
theorem word_lt (v : BitVec 32) (e : IntOp.andi (IntOp.cmpi .sge v 0#32) (IntOp.cmpi .slt v 100000#32) = 1#1) : v.toNat < 100000 := by
  have ofBool_eq_one (p : Bool) : (BitVec.ofBool p = 1#1) ↔ p = true := by cases p <;> decide
  simp only [IntOp.cmpi, WordCmp.andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A scalar has one index, -/
instance : Subsingleton Cert.Pre_in_range.S_.Idx := ⟨fun _ _ => funext fun a => a.elim0⟩
/-- in either condition. -/
instance : Subsingleton Cert.Pre_finite_in_range.S_.Idx := ⟨fun _ _ => funext fun a => a.elim0⟩

/-- The range condition holding, every target is below 100000. -/
theorem in_range (x : FVec F Cert.Pre_in_range.S1024x100000 .f32) (t : IVec Cert.Pre_in_range.S1024 32)
    (h : Cert.Pre_in_range.fn (F := F) x t = fun _ => 1#1) (j : Cert.Pre_in_range.S1024.Idx) : (t j).toNat < 100000 :=
  word_lt _ (Host.reduce_andi_all _ _ _ _ (fun a => a.elim0) (congrFun h _) j)

/-- The condition on ranges and finiteness holding, every target is below 100000, -/
theorem in_range' (x : FVec F Cert.Pre_finite_in_range.S1024x100000 .f32) (t : IVec Cert.Pre_finite_in_range.S1024 32)
    (h : Cert.Pre_finite_in_range.fn (F := F) x t = fun _ => 1#1) (j : Cert.Pre_finite_in_range.S1024.Idx) : (t j).toNat < 100000 := by
  have h0 := congrFun h (fun a => a.elim0)
  unfold Cert.Pre_finite_in_range.fn at h0
  exact word_lt _ (Host.reduce_andi_all _ _ _ _ (fun a => a.elim0) (IntOp.andi_eq_one.1 h0).1 j)

/-- A number whose absolute value is below infinity is a real number. -/
theorem real_of_abs (x : EReal) (h : max x (-x) < ⊤) : ∃ r : ℝ, x = (r : EReal) := by
  induction x using EReal.rec with
  | bot => simp at h
  | coe r => exact ⟨r, rfl⟩
  | top => simp at h

/-- and, at the exact reading, every logit is a real number. -/
theorem finite (x : FVec Ideal Cert.Pre_finite_in_range.S1024x100000 .f32) (t : IVec Cert.Pre_finite_in_range.S1024 32)
    (h : Cert.Pre_finite_in_range.fn (F := Ideal) x t = fun _ => 1#1) (j : Cert.Pre_finite_in_range.S1024x100000.Idx) :
    ∃ r : ℝ, x j = (r : EReal) := by
  have h0 := congrFun h (fun a => a.elim0)
  unfold Cert.Pre_finite_in_range.fn at h0
  have h1 := Host.reduce_andi_all _ _ _ _ (fun a => a.elim0) (IntOp.andi_eq_one.1 h0).2 j
  have h2 : BitVec.ofBool (decide (max (x j) (-(x j)) < (Ideal.ofBits .f32 0x7F800000#32 : EReal))) = 1#1 := h1
  have h3 : (Ideal.ofBits .f32 0x7F800000#32 : EReal) = ⊤ := by simp [Ideal.ofBits, Ideal.ieee]
  rw [h3] at h2
  refine real_of_abs _ ?_
  by_contra hc
  rw [decide_eq_false hc] at h2
  exact absurd h2 (by decide)

end Cert.Pre

end
-- ==== Proof.Frames.lean ====
/- The frames of the three programs and the named constants' values, read off the runs. -/
module

public import proofs.«01_k».proof.Proof.Run
public import proofs.«01_k».proof.Proof.BitsRun
public import proofs.«01_k».proof.Proof.Pre
public import proofs.«01_k».proof.Proof.Gen.ReferenceIdeal
public import proofs.«01_k».proof.Proof.Gen.ReferenceIdeal.Run

@[expose] public section

noncomputable section

namespace Cert.Frames

open Idealize.ShloMosaic Idealize.SL.Sem

/-- The kernel as printed runs and leaves its arguments as they were, at the chip's own floats. -/
theorem kernel : Cert.quiescent_Kernel := fun m g h =>
  (θ_run Cert.Kernel.defs _ _).mono (fun _ q => ⟨fun c => (q.1 c).2, q.2⟩)
    (Cert.Kernel.Whole.run_main (F := Bits) m g fun c j => Cert.Pre.in_range _ _ (h c) j)

/-- The kernel with named constants runs and leaves its arguments as they were, at exact numbers. -/
theorem kernelIdeal : Cert.quiescent_KernelIdeal := fun m g h =>
  (θ_run Cert.KernelIdeal.defs _ _).mono (fun _ q => ⟨fun c => (q.1 c).2, q.2⟩)
    (Cert.KernelIdeal.Whole.run_main (F := Ideal) m g fun c j => Cert.Pre.in_range _ _ (h c) j)

/-- The reference runs and leaves its arguments as they were; it has no semaphores. -/
theorem referenceIdeal : Cert.quiescent_ReferenceIdeal := fun m g _ =>
  (θ_run Cert.ReferenceIdeal.defs _ _).mono
    (fun r q => ⟨fun c => (q c).2, sem_eq_zero_of_no_sems (by decide) r.2⟩)
    (Cert.ReferenceIdeal.Value.run (F := Ideal) m g)

/-- Each named constant has the value that its name states. -/
theorem preserves : Cert.preserves_Kernel_KernelIdeal :=
  ⟨IdealRules.named_const.statement Cert.KernelIdeal.κ "nlog2e" .f32 _ _ rfl,
    IdealRules.named_const.statement Cert.KernelIdeal.κ "log2e" .f32 _ _ rfl,
    IdealRules.named_const.statement Cert.KernelIdeal.κ "ln2_over_rows" .f32 _ _ rfl⟩

end Cert.Frames

end
-- ==== Proof.Math.lean ====
/- The kernel's arithmetic at exact numbers: on real logits every value is a real number, the products
   of exponentials come apart under the logarithm, and the sums over groups, blocks, streams and steps
   are one sum over all columns. -/
module

public import proofs.«01_k».proof.Proof.Run
public import Idealize.ShloMosaic.Lib.Pointwise
public import Idealize.ShloMosaic.Lib.IdealHost

@[expose] public section

noncomputable section

namespace Cert.Math

open Idealize.ShloMosaic Cert.KernelIdeal Cert.KernelIdeal.Gen Cert.KernelIdeal.TcBody

/-- One logit's loss: the logarithm of `1 + e^(-r)`. -/
def loss (r : ℝ) : ℝ := Real.log (1 + Real.exp (-r))

/-- The same to the base 2, as the kernel adds it up. -/
def loss2 (r : ℝ) : ℝ := loss r * (Real.log 2)⁻¹

/-- The pattern of one denotes one. -/
theorem one_bits : (Scalar.ofBits .f32 0x3F800000#32 : Ideal .f32) = ((1 : ℝ) : EReal) := Ideal.ofBits_one_f32

/-- The pattern of zero denotes zero. -/
theorem zero_bits : (Scalar.ofBits .f32 0x00000000#32 : Ideal .f32) = ((0 : ℝ) : EReal) := Ideal.ofBits_zero_f32

/-- The named constant `nlog2e` is -1/ln 2; -/
theorem nlog2e_eq : (Named.named κ "nlog2e" 0xBFB8AA3B#32 : Ideal .f32) = ((-((Real.log 2)⁻¹) : ℝ) : EReal) :=
  IdealRules.named_const.ideal_named_scalar _ _ _ _ rfl

/-- `log2e` is 1/ln 2; -/
theorem log2e_eq : (Named.named κ "log2e" 0x3FB8AA3B#32 : Ideal .f32) = (((Real.log 2)⁻¹ : ℝ) : EReal) :=
  IdealRules.named_const.ideal_named_scalar _ _ _ _ rfl

/-- `ln2_over_rows` is ln 2 / 1024. -/
theorem ln2_over_rows_eq : (Named.named κ "ln2_over_rows" 0x3A317218#32 : Ideal .f32) = (((Real.log 2) * (1 / 1024) : ℝ) : EReal) :=
  IdealRules.named_const.ideal_named_scalar _ _ _ _ rfl

/-- Two to the power `-r/ln 2` is `e^(-r)`. -/
theorem rpow_nlog2e (r : ℝ) : Real.rpow 2 (r * -((Real.log 2)⁻¹)) = Real.exp (-r) := by
  have h : Real.log 2 ≠ 0 := (Real.log_pos (by norm_num)).ne'
  show (2 : ℝ) ^ (r * -((Real.log 2)⁻¹)) = _
  rw [Real.rpow_def_of_pos (by norm_num)]
  congr 1
  field_simp

/-- `1 + e^(-r)` is positive. -/
theorem one_add_exp_pos (r : ℝ) : 0 < 1 + Real.exp (-r) := by positivity

/-- `1 + 2^(x·c)` at a real logit. -/
theorem one_add_exp2 (r : ℝ) :
    FloatOps.addf (F := Ideal) (φ := .f32) (Scalar.ofBits .f32 0x3F800000#32)
      (FloatOps.exp2 (FloatOps.mulf (φ := .f32) ((r : EReal) : Ideal .f32) (Named.named κ "nlog2e" 0xBFB8AA3B#32)))
      = ((1 + Real.exp (-r) : ℝ) : EReal) := by
  rw [one_bits, nlog2e_eq]
  show ((1 : ℝ) : EReal) + Ideal.exp2 ((r : EReal) * ((-((Real.log 2)⁻¹) : ℝ) : EReal)) = _
  rw [← EReal.coe_mul, Ideal.exp2_coe, rpow_nlog2e, ← EReal.coe_add]

/-- The logarithm to the base 2 of a positive real number. -/
theorem log_log2e (p : ℝ) (hp : 0 < p) :
    FloatOps.mulf (F := Ideal) (φ := .f32) (FloatOps.log ((p : EReal) : Ideal .f32)) (Named.named κ "log2e" 0x3FB8AA3B#32)
      = ((Real.log p * (Real.log 2)⁻¹ : ℝ) : EReal) := by
  rw [log2e_eq]
  show Ideal.log (p : EReal) * (((Real.log 2)⁻¹ : ℝ) : EReal) = _
  rw [Ideal.log_coe, if_neg (not_le.2 hp), ← EReal.coe_mul]

/-- A vector of eight rows at a place whose logit is real. -/
theorem eRows_apply (x : FVec Ideal S1000x1024 .f32) (b : ℕ) (h : b + 8 ≤ 1000) (i : Fin 8) (l : Fin 1024) (r : ℝ)
    (hx : x (ix2 ⟨b + i.val, by omega⟩ l) = (r : EReal)) :
    eRows x b h (ix2 i l) = ((1 + Real.exp (-r) : ℝ) : EReal) := by
  rw [← one_add_exp2 r, ← hx]
  show FloatOps.addf _ (FloatOps.exp2 (FloatOps.mulf (extractStridedSlice S8x1024 ![b, 0] x (slices_at b h) (ix2 i l)) _)) = _
  rw [extractStridedSlice_apply ![b, 0] x (slices_at b h) (ix2 i l) (ix2 ⟨b + i.val, by omega⟩ l) (fun a => by
    fin_cases a
    · rfl
    · exact (Nat.zero_add _).symm)]
  rfl

/-- The logarithm vector at a place whose entry is a positive real number. -/
theorem lg2_apply (x : FVec Ideal S8x1024 .f32) (j : S8x1024.Idx) (p : ℝ) (hp : 0 < p) (hx : x j = (p : EReal)) :
    lg2 x j = ((Real.log p * (Real.log 2)⁻¹ : ℝ) : EReal) := by
  rw [← log_log2e p hp, ← hx]; rfl

section Block

variable (x : FVec Ideal S1000x1024 .f32) (i : Fin 8) (l : Fin 1024) (f : ℕ → ℝ)
  (hx : ∀ (k : ℕ) (hk : k < 1000), x (ix2 ⟨k, hk⟩ l) = (f k : EReal))
include hx

/-- The sum after `n` groups: `4n` times eight rows, of which this place adds one row in eight. -/
theorem quads_apply (s : FVec Ideal S8x1024 .f32) (σ : ℝ) (hs : s (ix2 i l) = (σ : EReal)) :
    ∀ (n : ℕ) (h : n ≤ 31), quads x s n h (ix2 i l)
      = ((σ + ∑ a ∈ Finset.range (4 * n), loss2 (f (8 * a + i.val)) : ℝ) : EReal)
  | 0, _ => by rw [Nat.mul_zero, Finset.sum_range_zero, add_zero]; exact hs
  | n + 1, h => by
    have ih := quads_apply s σ hs n (by omega)
    have e (b : ℕ) (hb : b + 8 ≤ 1000) : eRows x b hb (ix2 i l) = ((1 + Real.exp (-(f (b + i.val))) : ℝ) : EReal) :=
      eRows_apply x b hb i l _ (hx _ _)
    show FloatOps.addf (F := Ideal) (φ := .f32) (quads x s n (by omega) (ix2 i l)) (lg2 _ (ix2 i l)) = _
    have hp (k : ℕ) := one_add_exp_pos (f k)
    rw [lg2_apply _ (ix2 i l)
      (((1 + Real.exp (-(f (32 * n + i.val)))) * (1 + Real.exp (-(f (32 * n + 8 + i.val)))))
        * ((1 + Real.exp (-(f (32 * n + 16 + i.val)))) * (1 + Real.exp (-(f (32 * n + 24 + i.val))))))
      (by have := hp (32 * n + i.val); have := hp (32 * n + 8 + i.val); have := hp (32 * n + 16 + i.val)
          have := hp (32 * n + 24 + i.val); positivity)
      (by
        show ((eRows x (32 * n) _ (ix2 i l) : EReal) * (eRows x (32 * n + 8) _ (ix2 i l) : EReal))
          * ((eRows x (32 * n + 16) _ (ix2 i l) : EReal) * (eRows x (32 * n + 24) _ (ix2 i l) : EReal)) = _
        rw [e, e, e, e, ← EReal.coe_mul, ← EReal.coe_mul, ← EReal.coe_mul]), ih]
    show ((_ : ℝ) : EReal) + ((_ : ℝ) : EReal) = _
    rw [← EReal.coe_add, show 4 * (n + 1) = 4 * n + 1 + 1 + 1 + 1 by ring, Finset.sum_range_succ, Finset.sum_range_succ,
      Finset.sum_range_succ, Finset.sum_range_succ,
      show 8 * (4 * n) + i.val = 32 * n + i.val by ring, show 8 * (4 * n + 1) + i.val = 32 * n + 8 + i.val by ring,
      show 8 * (4 * n + 1 + 1) + i.val = 32 * n + 16 + i.val by ring,
      show 8 * (4 * n + 1 + 1 + 1) + i.val = 32 * n + 24 + i.val by ring,
      Real.log_mul (mul_pos (hp _) (hp _)).ne' (mul_pos (hp _) (hp _)).ne', Real.log_mul (hp _).ne' (hp _).ne',
      Real.log_mul (hp _).ne' (hp _).ne']
    unfold loss2 loss
    congr 1; ring

/-- The sum after a whole block: this place adds its row in each of the 125 groups of eight. -/
theorem blockSum_apply (s : FVec Ideal S8x1024 .f32) (σ : ℝ) (hs : s (ix2 i l) = (σ : EReal)) :
    blockSum x s (ix2 i l) = ((σ + ∑ a ∈ Finset.range 125, loss2 (f (8 * a + i.val)) : ℝ) : EReal) := by
  show FloatOps.addf (F := Ideal) (φ := .f32) (quads x s 31 _ (ix2 i l)) (lg2 _ (ix2 i l)) = _
  rw [quads_apply x i l f hx s σ hs 31 _,
    lg2_apply _ (ix2 i l) _ (one_add_exp_pos (f (992 + i.val))) (eRows_apply x 992 _ i l _ (hx _ _))]
  show ((_ : ℝ) : EReal) + ((_ : ℝ) : EReal) = _
  rw [← EReal.coe_add, show 4 * 31 = 124 from rfl, Finset.sum_range_succ _ 124, show 8 * 124 + i.val = 992 + i.val by ring,
    add_assoc]
  rfl

end Block

/-- The sum after one grid step: the four streams' blocks. -/
theorem stepSum_apply (x1 x2 x3 x4 : FVec Ideal S1000x1024 .f32) (i : Fin 8) (l : Fin 1024) (f : ℕ → ℕ → ℝ)
    (h1 : ∀ (k : ℕ) (hk : k < 1000), x1 (ix2 ⟨k, hk⟩ l) = (f 0 k : EReal))
    (h2 : ∀ (k : ℕ) (hk : k < 1000), x2 (ix2 ⟨k, hk⟩ l) = (f 1 k : EReal))
    (h3 : ∀ (k : ℕ) (hk : k < 1000), x3 (ix2 ⟨k, hk⟩ l) = (f 2 k : EReal))
    (h4 : ∀ (k : ℕ) (hk : k < 1000), x4 (ix2 ⟨k, hk⟩ l) = (f 3 k : EReal))
    (s : FVec Ideal S8x1024 .f32) (σ : ℝ) (hs : s (ix2 i l) = (σ : EReal)) :
    stepSum x1 x2 x3 x4 s (ix2 i l)
      = ((σ + ∑ k ∈ Finset.range 4, ∑ a ∈ Finset.range 125, loss2 (f k (8 * a + i.val)) : ℝ) : EReal) := by
  unfold stepSum
  simp only [shapeCast_self]
  rw [blockSum_apply x4 i l _ h4 _ _ (blockSum_apply x3 i l _ h3 _ _ (blockSum_apply x2 i l _ h2 _ _
    (blockSum_apply x1 i l _ h1 _ _ hs)))]
  simp only [Finset.sum_range_succ _ 3, Finset.sum_range_succ _ 2, Finset.sum_range_succ _ 1, Finset.sum_range_one, add_assoc]

/-- A sum over `A·B` terms is a sum over `A` stretches of `B` terms. -/
theorem sum_stretches (A B : ℕ) (g : ℕ → ℝ) :
    ∑ n ∈ Finset.range (A * B), g n = ∑ a ∈ Finset.range A, ∑ b ∈ Finset.range B, g (B * a + b) := by
  induction A with
  | zero => simp
  | succ A ih => rw [Nat.succ_mul, Finset.sum_range_add, ih, Finset.sum_range_succ]; simp only [Nat.mul_comm]

/-- The kernel's order of the columns: eight rows of the accumulator, 25 steps, four streams, 125 groups of
    eight; each column is met once. -/
theorem sum_columns (g : ℕ → ℝ) :
    ∑ i ∈ Finset.range 8, ∑ t ∈ Finset.range 25, ∑ k ∈ Finset.range 4, ∑ a ∈ Finset.range 125,
      g (1000 * (25 * k + t) + (8 * a + i)) = ∑ n ∈ Finset.range 100000, g n := by
  rw [show 100000 = 100 * 1000 from rfl, sum_stretches, show 100 = 4 * 25 from rfl, sum_stretches]
  simp only [show 1000 = 125 * 8 from rfl, sum_stretches 125 8]
  rw [Finset.sum_comm, Finset.sum_comm (s := Finset.range 4)]
  refine Finset.sum_congr rfl fun t _ => ?_
  rw [Finset.sum_comm]
  refine Finset.sum_congr rfl fun k _ => ?_
  rw [Finset.sum_comm]

end Cert.Math

end
-- ==== Proof.Value.lean ====
/- What the kernel returns at exact numbers, on real logits: the mean over the row's columns of the
   losses, the target's left out. -/
module

public import proofs.«01_k».proof.Proof.Math

@[expose] public section

noncomputable section

namespace Cert.Value

open Idealize.ShloMosaic Idealize.SL.Sem Cert.KernelIdeal Cert.KernelIdeal.Gen Cert.KernelIdeal.Sc Cert.KernelIdeal.Tc
open Cert.KernelIdeal.TcBody Cert.KernelIdeal.Whole Cert.Math
open Idealize.ShloMosaic.TcCoe

/-- The row a place of stream `0`'s block stands for at a step; -/
theorem row0 : ∀ t : Fin grid1.N, cc1_transform_0 (grid1.coords t) 0 = 25 * 0 + t.val ∧ cc1_transform_0 (grid1.coords t) 1 = 0 := by
  decide +kernel
/-- stream `1`'s; -/
theorem row1 : ∀ t : Fin grid1.N, cc1_transform_1 (grid1.coords t) 0 = 25 * 1 + t.val ∧ cc1_transform_1 (grid1.coords t) 1 = 0 := by
  decide +kernel
/-- stream `2`'s; -/
theorem row2 : ∀ t : Fin grid1.N, cc1_transform_2 (grid1.coords t) 0 = 25 * 2 + t.val ∧ cc1_transform_2 (grid1.coords t) 1 = 0 := by
  decide +kernel
/-- stream `3`'s. -/
theorem row3 : ∀ t : Fin grid1.N, cc1_transform_3 (grid1.coords t) 0 = 25 * 3 + t.val ∧ cc1_transform_3 (grid1.coords t) 1 = 0 := by
  decide +kernel

/-- A block of 1000 rows number `n` of the array, read at a place, is the array at the row that stands there. -/
theorem place {α : Type} (X : S100000x1024.Idx → α) (n c0 c1 k : ℕ) (hk : k < 1000) (l : Fin 1024) (hn : 1000 * n + k < 100000)
    (e : S100000x1024.Idx) (h0 : c0 = n) (h1 : c1 = 0) (he0 : (e 0).val = c0 * 1000 + 1 * k) (he1 : (e 1).val = c1 * 1024 + 1 * l.val) :
    X e = X (Idealize.ShloMosaic.ix2 ⟨1000 * n + k, hn⟩ l) := by
  refine congrArg X (funext fun a => Fin.ext ?_)
  match a with
  | 0 => show (e 0).val = 1000 * n + k; omega
  | 1 => show (e 1).val = l.val; omega

section Kernel

variable (m : (ℓ : Loc nD τ sig) → Buf (Elt Ideal) ℓ) (d : Dev nD) (l : Fin 1024) (f : ℕ → ℝ)
  (hf : ∀ (k : ℕ) (hk : k < 100000), (m (pLoc d) : FVec Ideal S1024x100000 .f32) (Idealize.ShloMosaic.ix2 l ⟨k, hk⟩) = (f k : EReal))
include hf

/-- The transposed logits at a row's place. -/
theorem predT_apply (k : ℕ) (hk : k < 100000) :
    (predT m d : FVec Ideal S100000x1024 .f32) (Idealize.ShloMosaic.ix2 ⟨k, hk⟩ l) = (f k : EReal) := by
  rw [← hf k hk]
  exact transpose_apply _ _ _ _ _ fun b => by
    match b with
    | 0 => rfl
    | 1 => rfl

/-- Stream `0`'s block at a step, read at a place; -/
theorem xb0_apply (t : Fin cfg1.N) (k : ℕ) (hk : k < 1000) :
    xb0 (V₁ m) d t (Idealize.ShloMosaic.ix2 ⟨k, hk⟩ l) = (f (1000 * (25 * 0 + t.val) + k) : EReal) := by
  have ht : t.val < 25 := N_1 ▸ t.isLt
  rw [← predT_apply m d l f hf _ (by omega)]
  unfold xb0; rw [V₁_v0]
  exact place (predT m d) _ _ _ k hk l _ ((win1_0.blk t).view.emb (Idealize.ShloMosaic.ix2 ⟨k, hk⟩ l)) (row0 t).1 (row0 t).2 rfl rfl
/-- stream `1`'s; -/
theorem xb1_apply (t : Fin cfg1.N) (k : ℕ) (hk : k < 1000) :
    xb1 (V₁ m) d t (Idealize.ShloMosaic.ix2 ⟨k, hk⟩ l) = (f (1000 * (25 * 1 + t.val) + k) : EReal) := by
  have ht : t.val < 25 := N_1 ▸ t.isLt
  rw [← predT_apply m d l f hf _ (by omega)]
  unfold xb1; rw [V₁_v0]
  exact place (predT m d) _ _ _ k hk l _ ((win1_1.blk t).view.emb (Idealize.ShloMosaic.ix2 ⟨k, hk⟩ l)) (row1 t).1 (row1 t).2 rfl rfl
/-- stream `2`'s; -/
theorem xb2_apply (t : Fin cfg1.N) (k : ℕ) (hk : k < 1000) :
    xb2 (V₁ m) d t (Idealize.ShloMosaic.ix2 ⟨k, hk⟩ l) = (f (1000 * (25 * 2 + t.val) + k) : EReal) := by
  have ht : t.val < 25 := N_1 ▸ t.isLt
  rw [← predT_apply m d l f hf _ (by omega)]
  unfold xb2; rw [V₁_v0]
  exact place (predT m d) _ _ _ k hk l _ ((win1_2.blk t).view.emb (Idealize.ShloMosaic.ix2 ⟨k, hk⟩ l)) (row2 t).1 (row2 t).2 rfl rfl
/-- stream `3`'s. -/
theorem xb3_apply (t : Fin cfg1.N) (k : ℕ) (hk : k < 1000) :
    xb3 (V₁ m) d t (Idealize.ShloMosaic.ix2 ⟨k, hk⟩ l) = (f (1000 * (25 * 3 + t.val) + k) : EReal) := by
  have ht : t.val < 25 := N_1 ▸ t.isLt
  rw [← predT_apply m d l f hf _ (by omega)]
  unfold xb3; rw [V₁_v0]
  exact place (predT m d) _ _ _ k hk l _ ((win1_3.blk t).view.emb (Idealize.ShloMosaic.ix2 ⟨k, hk⟩ l)) (row3 t).1 (row3 t).2 rfl rfl

/-- The cleared accumulator. -/
theorem cleared (j : S8x1024.Idx) : (k1_pay3 : FVec Ideal S8x1024 .f32) j = ((0 : ℝ) : EReal) := by
  unfold k1_pay3
  simp only [shapeCast_self]
  exact zero_bits

/-- The accumulator after `n` steps: at row `i` of eight the losses of the columns it has met. -/
theorem acc_apply (i : Fin 8) : ∀ (n : ℕ), n ≤ 25 → acc (V₁ m) d n (Idealize.ShloMosaic.ix2 i l)
    = ((∑ t ∈ Finset.range n, ∑ k ∈ Finset.range 4, ∑ a ∈ Finset.range 125,
        loss2 (f (1000 * (25 * k + t) + (8 * a + i.val))) : ℝ) : EReal)
  | 0, _ => cleared m d l f hf _
  | n + 1, h => by
    have ih := acc_apply i n (by omega)
    have hN : n < cfg1.N := by rw [show cfg1.N = 25 from N_1]; omega
    rw [acc_succ (V₁ m) d ⟨n, hN⟩, Finset.sum_range_succ]
    unfold accStep k1_pay1
    simp only [shapeCast_self]
    refine stepSum_apply _ _ _ _ i l (fun k j => f (1000 * (25 * k + n) + j)) (xb0_apply m d l f hf _) (xb1_apply m d l f hf _)
      (xb2_apply m d l f hf _) (xb3_apply m d l f hf _) _ _ ?_
    split
    · rename_i h0
      obtain rfl : n = 0 := (first_iff ⟨n, hN⟩).1 h0
      exact cleared m d l f hf _
    · exact ih

/-- The sums: every column's loss, to the base 2. -/
theorem sums_apply : sums (V₁ m) d (Idealize.ShloMosaic.ix1 l) = ((∑ n ∈ Finset.range 100000, loss2 (f n) : ℝ) : EReal) := by
  unfold sums k1_pay2
  refine (multiReduction_add_apply _ _ _ _ _ _).trans ((Ideal.reduceAdd_r2_a0 _ _ _).trans ?_)
  refine (Finset.sum_congr rfl fun i _ => acc_apply m d l f hf i 25 (le_refl _)).trans ?_
  rw [← sum_columns fun n => loss2 (f n), Finset.sum_range (n := 8)]
  exact (map_sum (⟨⟨((↑) : ℝ → EReal), rfl⟩, EReal.coe_add⟩ : ℝ →+ EReal) _ _).symm

/-- The logit that the SparseCore call picks for a row whose target is in range. -/
theorem picked_apply (k : ℕ) (hk : k < 100000) (ht : BitVec.toNat (m (tLoc d) (Idealize.ShloMosaic.ix1 l) : BitVec 32) = k) :
    picked m d (Idealize.ShloMosaic.ix1 l) = (f k : EReal) := by
  rw [← predT_apply m d l f hf k hk]
  unfold picked
  refine congrArg (predT m d) (funext fun a => Fin.ext ?_)
  match a with
  | 0 => show BitVec.toNat (m (tLoc d) (Idealize.ShloMosaic.ix1 l) : BitVec 32) % 100000 = k; omega
  | 1 => rfl

/-- The kernel's result at a row: the losses' sum but for the target's, over 1024. -/
theorem result_apply (k : ℕ) (hk : k < 100000) (ht : BitVec.toNat (m (tLoc d) (Idealize.ShloMosaic.ix1 l) : BitVec 32) = k) :
    result m d (Idealize.ShloMosaic.ix1 l) = (((∑ n ∈ Finset.range 100000, loss (f n) - loss (f k)) * (1 / 1024) : ℝ) : EReal) := by
  unfold result combine
  simp only [shapeCast_self]
  show FloatOps.mulf (F := Ideal) (φ := .f32) (FloatOps.subf (sums (V₁ m) d (Idealize.ShloMosaic.ix1 l))
    (FloatOps.mulf (FloatOps.log (FloatOps.addf (Scalar.ofBits .f32 0x3F800000#32)
      (FloatOps.exp2 (FloatOps.mulf (picked m d (Idealize.ShloMosaic.ix1 l)) (Named.named κ "nlog2e" 0xBFB8AA3B#32)))))
      (Named.named κ "log2e" 0x3FB8AA3B#32))) (Named.named κ "ln2_over_rows" 0x3A317218#32) = _
  rw [picked_apply m d l f hf k hk ht, one_add_exp2, log_log2e _ (one_add_exp_pos _), sums_apply m d l f hf, ln2_over_rows_eq]
  show (((_ : ℝ) : EReal) - ((_ : ℝ) : EReal)) * ((_ : ℝ) : EReal) = _
  rw [← EReal.coe_sub, ← EReal.coe_mul]
  have h : Real.log 2 ≠ 0 := (Real.log_pos (by norm_num)).ne'
  have e : ∑ n ∈ Finset.range 100000, loss2 (f n) = (∑ n ∈ Finset.range 100000, loss (f n)) * (Real.log 2)⁻¹ :=
    (Finset.sum_mul _ _ _).symm
  rw [e]
  generalize ∑ n ∈ Finset.range 100000, loss (f n) = S
  refine EReal.coe_eq_coe_iff.2 ?_
  unfold loss
  field_simp

end Kernel

end Cert.Value

end
-- ==== Proof.Reference.lean ====
/- What the reference returns at exact numbers, on real logits and targets in range: the mean over the
   row's columns of the losses, the target's left out. -/
module

public import proofs.«01_k».proof.Proof.Math
public import proofs.«01_k».proof.Proof.Gen.ReferenceIdeal
public import Idealize.ShloMosaic.Lib.Routing.OpsSet

@[expose] public section

noncomputable section

namespace Cert.RefValue

open Idealize.ShloMosaic Cert.ReferenceIdeal Cert.ReferenceIdeal.Gen Cert.Math

/-- How the reference's scatter reads its indices. -/
abbrev dims : ScatterDims S1024x100000 S1024x2 S1024 := scatter_S1024x100000_S1024x2_S1024_n_01_01_1

/-- Both words that place the update of row `a` are read in row `a` of the pairs. -/
theorem pair_idx (a : Fin 1024) (q : Fin 2) (h : List.idxOf q dims.scatterDimsToOperandDims < dims.scatterDimsToOperandDims.length) :
    dims.siIdx (ix1 a) ⟨List.idxOf q dims.scatterDimsToOperandDims, h⟩ = ix2 a q := by
  have hd : dims.indexVectorDim = 1 := rfl
  funext b
  apply Fin.ext
  match b with
  | ⟨0, _⟩ =>
    unfold ScatterDims.siIdx
    rw [dif_neg (by rw [hd]; exact (by decide : (0 : ℕ) ≠ 1))]
    unfold ScatterDims.siCoord
    exact congrArg (fun t => ((ix1 a : S1024.Idx) t).val) (Subsingleton.elim (α := Fin 1) _ 0)
  | ⟨1, _⟩ =>
    unfold ScatterDims.siIdx
    rw [dif_pos (by rw [hd])]
    show List.idxOf q [(0 : Fin 2), 1] = q.val
    fin_cases q <;> rfl

/-- The update of row `a` starts at its two words, read as signed numbers. -/
theorem start_eq (a : Fin 1024) (idx : IVec S1024x2 32) (q : Fin 2) : dims.start (ix1 a) idx q = (idx (ix2 a q)).toInt := by
  have hm : q ∈ dims.scatterDimsToOperandDims := by
    show q ∈ [(0 : Fin 2), 1]
    fin_cases q <;> simp
  unfold ScatterDims.start
  rw [dif_pos hm, pair_idx]

/-- An update is one element: it has no extent on either axis. -/
theorem window_eq (a : Fin 1024) (q : Fin 2) : dims.window (ix1 a) q = 0 := by
  unfold ScatterDims.window
  refine dif_neg fun h => (of_decide_eq_true (List.mem_filter.1 h).2) ?_
  show q ∈ [(0 : Fin 2), 1]
  fin_cases q <;> simp

/-- The update of row `a` lands at row `r`, column `c` when these are its words. -/
theorem lands (a : Fin 1024) (idx : IVec S1024x2 32) (r : Fin 1024) (c : Fin 100000) :
    dims.resultIdx? (ix1 a) idx = some (ix2 r c) ↔ (idx (ix2 a 0)).toInt = r.val ∧ (idx (ix2 a 1)).toInt = c.val := by
  rw [Routing.resultIdx?_eq_some]
  constructor
  · intro h
    have h0 := h 0
    have h1 := h 1
    rw [start_eq, window_eq] at h0 h1
    exact ⟨by simpa using h0, by simpa using h1⟩
  · rintro ⟨h0, h1⟩ q
    rw [start_eq, window_eq]
    match q with
    | 0 => simpa using h0
    | 1 => simpa using h1

/-- The scatter at a place, where row `a`'s words are `a` and its target: the update in the target's
    column, the operand elsewhere. -/
theorem scatter_apply (x : FVec Ideal S1024x100000 .f32) (idx : IVec S1024x2 32) (u : FVec Ideal S1024 .f32) (T : Fin 1024 → ℕ)
    (h0 : ∀ a : Fin 1024, (idx (ix2 a 0)).toInt = a.val) (h1 : ∀ a : Fin 1024, (idx (ix2 a 1)).toInt = T a)
    (r : Fin 1024) (c : Fin 100000) :
    Host.scatter dims (fun _ b => b) x idx u (ix2 r c) = if c.val = T r then u (ix1 r) else x (ix2 r c) := by
  have hr (k : S1024.Idx) (hk : dims.resultIdx? k idx = some (ix2 r c)) : k = ix1 r ∧ c.val = T r := by
    obtain ⟨a, rfl⟩ : ∃ a : Fin 1024, k = ix1 a := ⟨k 0, (ix1_eta k).symm⟩
    obtain ⟨e0, e1⟩ := (lands a idx r c).1 hk
    rw [h0] at e0; rw [h1] at e1
    obtain rfl : a = r := Fin.ext (by exact_mod_cast e0)
    exact ⟨rfl, by exact_mod_cast e1.symm⟩
  by_cases h : c.val = T r
  · rw [if_pos h]
    exact Routing.scatter_set_hit dims x idx u _ _ (fun k hk => by rw [(hr k hk).1]) (ix1 r)
      ((lands r idx r c).2 ⟨h0 r, by rw [h1, h]⟩)
  · rw [if_neg h]
    exact Routing.scatter_set_miss dims x idx u _ fun k hk => h (hr k hk).2

/-- A word below half its range, wrapped as an index from the end would be, is itself. -/
theorem wrap_toInt (x a : BitVec 32) (h : x.toNat < 100000) : (Scalar.select (IntOp.cmpi .slt x 0#32) a x).toInt = x.toNat := by
  rw [Routing.wrap_of_lt x a (by omega), BitVec.toInt_eq_toNat_of_lt (by omega)]

/-- The two words of each row: the row's number and its target. -/
def pairs (t : IVec S1024 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩, ⟨S1024x1, (broadcastInDim S1024x1 ![0] bcast_S1024_S1024x1_0 (select (cmpi .slt t (broadcastInDim S1024 ![] bcast_S_S1024 (constantI S_ 32 0#32))) (addi t (broadcastInDim S1024 ![] bcast_S_S1024 (constantI S_ 32 100000#32))) t))⟩] concatenates_S1024x1_S1024x1_S1024x2_d1

/-- The first word of a row's pair is the row's number; -/
theorem pairs_row (t : IVec S1024 32) (a : Fin 1024) : (pairs t (ix2 a 0)).toInt = a.val := by
  refine (congrArg BitVec.toInt (?_ : pairs t (ix2 a 0) = Scalar.select (IntOp.cmpi .slt (BitVec.ofNat 32 a.val) 0#32)
    (IntOp.addi (BitVec.ofNat 32 a.val) 1024#32) (BitVec.ofNat 32 a.val))).trans ?_
  · unfold pairs
    pointwise
  · have h := a.isLt
    rw [wrap_toInt _ _ (by rw [BitVec.toNat_ofNat]; omega), BitVec.toNat_ofNat]; omega

/-- the second is its target. -/
theorem pairs_target (t : IVec S1024 32) (a : Fin 1024) (h : (t (ix1 a)).toNat < 100000) :
    (pairs t (ix2 a 1)).toInt = (t (ix1 a)).toNat := by
  refine (congrArg BitVec.toInt (?_ : pairs t (ix2 a 1) = Scalar.select (IntOp.cmpi .slt (t (ix1 a)) 0#32)
    (IntOp.addi (t (ix1 a)) 100000#32) (t (ix1 a)))).trans (wrap_toInt _ _ h)
  unfold pairs
  pointwise

/-- The logarithm of the sigmoid of each logit. -/
def logs (x : FVec Ideal S1024x100000 .f32) : FVec Ideal S1024x100000 .f32 :=
  Host.log (Host.divf (broadcastInDim S1024x100000 ![] bcast_S_S1024x100000 (constant S_ .f32 0x3F800000#32)) (addf (broadcastInDim S1024x100000 ![] bcast_S_S1024x100000 (constant S_ .f32 0x3F800000#32)) (Host.exp (Host.negf x))))

/-- The reference's result, of its two arguments. -/
def result (x : FVec Ideal S1024x100000 .f32) (t : IVec S1024 32) : FVec Ideal S1024 .f32 :=
  Host.divf (Host.negf (Host.reduceAdd (Host.scatter dims (fun _ b => b) (logs x) (pairs t) (broadcastInDim S1024 ![] bcast_S_S1024 (constant S_ .f32 0x00000000#32))) (constant S_ .f32 0x00000000#32) reducesTo_S1024x100000_S1024_d1 h_S_)) (broadcastInDim S1024 ![] bcast_S_S1024 (constant S_ .f32 0x44800000#32))

/-- At a real logit the logarithm of the sigmoid is the loss, negated. -/
theorem logs_apply (x : FVec Ideal S1024x100000 .f32) (j : S1024x100000.Idx) (r : ℝ) (hx : x j = (r : EReal)) :
    logs x j = ((-(loss r) : ℝ) : EReal) := by
  have e : logs x j = Ideal.log (Ideal.div (Scalar.ofBits .f32 0x3F800000#32 : Ideal .f32)
      ((Scalar.ofBits .f32 0x3F800000#32 : Ideal .f32) + Ideal.exp (-(x j)))) := rfl
  have hp := one_add_exp_pos r
  rw [e, hx, one_bits, ← EReal.coe_neg, Ideal.exp_coe, ← EReal.coe_add, Ideal.div_coe hp.ne', ← EReal.coe_mul, one_mul,
    Ideal.log_coe, if_neg (not_le.2 (one_div_pos.2 hp)), one_div, Real.log_inv]
  rfl

/-- The pattern of 1024 denotes 1024. -/
theorem rows_bits : (Scalar.ofBits .f32 0x44800000#32 : Ideal .f32) = ((1024 : ℝ) : EReal) := by
  show Ideal.ofBits .f32 0x44800000#32 = _
  simp [Ideal.ofBits, Ideal.ieee, -EReal.coe_mul]; norm_num

/-- A sum that leaves one term out. -/
theorem sum_without (g : ℕ → ℝ) (k : ℕ) (hk : k < 100000) :
    ∑ c : Fin 100000, (if c.val = k then (0 : ℝ) else -(g c.val)) = -(∑ n ∈ Finset.range 100000, g n - g k) := by
  rw [← Finset.sum_range (fun n => if n = k then (0 : ℝ) else -(g n)),
    ← Finset.add_sum_erase _ _ (Finset.mem_range.2 hk), ← Finset.add_sum_erase _ g (Finset.mem_range.2 hk), if_pos rfl,
    Finset.sum_congr rfl fun n hn => if_neg (Finset.ne_of_mem_erase hn), Finset.sum_neg_distrib]
  ring

/-- The reference's result at a row: the losses' sum but for the target's, over 1024. -/
theorem result_apply (x : FVec Ideal S1024x100000 .f32) (t : IVec S1024 32) (ht : ∀ j, (t j).toNat < 100000) (l : Fin 1024) (f : ℕ → ℝ)
    (hf : ∀ (k : ℕ) (hk : k < 100000), x (ix2 l ⟨k, hk⟩) = (f k : EReal)) :
    result x t (ix1 l) = (((∑ n ∈ Finset.range 100000, loss (f n) - loss (f (t (ix1 l)).toNat)) * (1 / 1024) : ℝ) : EReal) := by
  have hs (c : Fin 100000) : Host.scatter dims (fun _ b => b) (logs x) (pairs t) (broadcastInDim S1024 ![] bcast_S_S1024 (constant S_ .f32 0x00000000#32)) (ix2 l c)
      = ((if c.val = (t (ix1 l)).toNat then (0 : ℝ) else -(loss (f c.val)) : ℝ) : EReal) := by
    rw [scatter_apply _ _ _ (fun a => (t (ix1 a)).toNat) (pairs_row t) (fun a => pairs_target t a (ht _)) l c]
    split
    · exact zero_bits
    · exact logs_apply x _ _ (hf c.val c.isLt)
  have e : result x t (ix1 l) = Ideal.div (-(Host.reduceAdd (Host.scatter dims (fun _ b => b) (logs x) (pairs t) (broadcastInDim S1024 ![] bcast_S_S1024 (constant S_ .f32 0x00000000#32))) (constant S_ .f32 0x00000000#32) reducesTo_S1024x100000_S1024_d1 h_S_ (ix1 l) : EReal))
      (Scalar.ofBits .f32 0x44800000#32 : Ideal .f32) := rfl
  have hr : (Host.reduceAdd (Host.scatter dims (fun _ b => b) (logs x) (pairs t) (broadcastInDim S1024 ![] bcast_S_S1024 (constant S_ .f32 0x00000000#32))) (constant S_ .f32 0x00000000#32) reducesTo_S1024x100000_S1024_d1 h_S_ (ix1 l) : EReal)
      = ((-(∑ n ∈ Finset.range 100000, loss (f n) - loss (f (t (ix1 l)).toNat)) : ℝ) : EReal) := by
    refine (Host.reduceAdd_apply _ _ _ _ _).trans ((Ideal.hostReduceAdd_r2_a1 _ _ _ _).trans ?_)
    have h0 : (constant S_ .f32 0x00000000#32 : FVec Ideal S_ .f32) (Shape.Idx.first h_S_) = ((0 : ℝ) : EReal) := zero_bits
    rw [h0, EReal.coe_zero, zero_add, ← sum_without (fun n => loss (f n)) _ (ht _)]
    refine (Finset.sum_congr rfl fun c _ => hs c).trans ?_
    exact (map_sum (⟨⟨((↑) : ℝ → EReal), rfl⟩, EReal.coe_add⟩ : ℝ →+ EReal) _ _).symm
  rw [e, hr, rows_bits, ← EReal.coe_neg, Ideal.div_coe (by norm_num), ← EReal.coe_mul, neg_neg]

end Cert.RefValue

end
-- ==== Proof.Equal.lean ====
/- The kernel's result is the reference's, at exact numbers, on finite logits and targets in range. -/
module

public import proofs.«01_k».proof.Proof.Frames
public import proofs.«01_k».proof.Proof.Value
public import proofs.«01_k».proof.Proof.Reference

@[expose] public section

noncomputable section

namespace Cert.Equal

open Idealize.ShloMosaic Idealize.SL.Sem

/-- Under the condition on ranges and finiteness the kernel runs and leaves its arguments as they were. -/
theorem kernelIdeal : Cert.quiescent_KernelIdeal_pre_finite_in_range := fun m g h =>
  (θ_run Cert.KernelIdeal.defs _ _).mono (fun _ q => ⟨fun c => (q.1 c).2, q.2⟩)
    (Cert.KernelIdeal.Whole.run_main (F := Ideal) m g fun c j => Cert.Pre.in_range' _ _ (h c) j)

/-- So does the reference, under any condition. -/
theorem referenceIdeal : Cert.quiescent_ReferenceIdeal_pre_finite_in_range := fun m g _ =>
  Cert.Frames.referenceIdeal m g trivial

/-- The two results are equal, row by row. -/
theorem result_eq (m : (ℓ : Loc Cert.KernelIdeal.nD Cert.KernelIdeal.τ Cert.KernelIdeal.sig) → Buf (Elt Ideal) ℓ)
    (h : Cert.Pre_KernelIdeal_finite_in_range m) (c : Dev Cert.KernelIdeal.nD) :
    Cert.RefValue.result (m (Cert.KernelIdeal.Sc.pLoc c)) (m (Cert.KernelIdeal.Sc.tLoc c)) = Cert.KernelIdeal.Whole.result m c := by
  funext j
  obtain ⟨l, rfl⟩ : ∃ l : Fin 1024, j = ix1 l := ⟨j 0, (ix1_eta j).symm⟩
  have hfin := Cert.Pre.finite _ _ (h c)
  have ht := Cert.Pre.in_range' _ _ (h c)
  have hf : ∃ f : ℕ → ℝ, ∀ (k : ℕ) (hk : k < 100000),
      (m (Cert.KernelIdeal.Sc.pLoc c) : FVec Ideal Cert.KernelIdeal.S1024x100000 .f32) (ix2 l ⟨k, hk⟩) = (f k : EReal) := by
    choose r hr using hfin
    exact ⟨fun k => if hk : k < 100000 then r (ix2 l ⟨k, hk⟩) else 0, fun k hk => by beta_reduce; rw [dif_pos hk]; exact hr _⟩
  obtain ⟨f, hf⟩ := hf
  exact (Cert.RefValue.result_apply _ _ ht l f hf).trans (Cert.Value.result_apply m c l f hf _ (ht (ix1 l)) rfl).symm

/-- Both programs run, leave their arguments as they were, and return the same. -/
theorem algebraic : Cert.algebraic_KernelIdeal_ReferenceIdeal_pre_finite_in_range := fun m g m' g' h e =>
  ⟨Cert.KernelIdeal.Whole.result m,
    (θ_run Cert.KernelIdeal.defs _ _).mono (fun _ q => q.1)
      (Cert.KernelIdeal.Whole.run_main (F := Ideal) m g fun c j => Cert.Pre.in_range' _ _ (h c) j),
    (θ_run Cert.ReferenceIdeal.defs _ _).mono
      (fun r q c => ⟨(q c).1.trans ((congrArg₂ Cert.RefValue.result (e c).1 (e c).2).trans (result_eq m h c)), (q c).2⟩)
      (Cert.ReferenceIdeal.Value.run (F := Ideal) m' g')⟩

end Cert.Equal

end
-- ==== Proof.lean ====
/- The claims about the kernel and the reference, put together from their modules. -/
module

public import proofs.«01_k».proof.Defs
public import proofs.«01_k».proof.Proof.Frames
public import proofs.«01_k».proof.Proof.Equal

@[expose] public section

noncomputable section

namespace Cert.Proof

/-- Everything claimed: the frames, the named constants, and that the kernel's result is the reference's. -/
theorem claim : Cert.Claim :=
  ⟨Cert.Kernel.Gen.facts, Cert.KernelIdeal.Gen.facts, Cert.ReferenceIdeal.Gen.facts, Cert.Pre_in_range.Gen.facts,
    Cert.Pre_finite_in_range.Gen.facts, Cert.Frames.kernel, Cert.Frames.kernelIdeal, Cert.Equal.kernelIdeal,
    Cert.Frames.referenceIdeal, Cert.Equal.referenceIdeal, Cert.Frames.preserves, Cert.Equal.algebraic⟩

end Cert.Proof

end
